-- ==== Defs.lean ====
def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_scores_below_infinity : Cert.Pre_scores_below_infinity.Facts),
    quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S4x20000x7 : Shape := ⟨3, ![4, 20000, 7]⟩
abbrev S4x20000x3 : Shape := ⟨3, ![4, 20000, 3]⟩
abbrev S_ : Shape := ⟨0, ![]⟩

class Facts : Prop where
  bcast_S_S4x20000x3 : S_.BroadcastsInDim S4x20000x3 (![] : Fin 0 → Fin S4x20000x3.rank)

variable [Facts]

def fn {F : FTy → Type} [FloatOps F] (main_arg0 : FVec F S4x20000x7 .f32) (main_arg1 : FVec F S4x20000x7 .f32) (main_arg2 : FVec F S4x20000x3 .f32) (main_arg3 : FVec F S4x20000x3 .f32) : IVec S4x20000x3 1 :=
  let main_cst : FVec F S_ .f32 := constant S_ .f32 0x7F800000#32
  let main_v0 : FVec F S4x20000x3 .f32 := broadcastInDim S4x20000x3 ![] bcast_S_S4x20000x3 main_cst
  let main_v1 : IVec S4x20000x3 1 := cmpf .olt main_arg2 main_v0
  main_v1
-- ==== KernelIdeal.lean ====
abbrev S4x20000x7 : Shape := ⟨3, ![4, 20000, 7]⟩
abbrev S4x20000x3 : Shape := ⟨3, ![4, 20000, 3]⟩
abbrev S_ : Shape := ⟨0, ![]⟩
abbrev S4x20000 : Shape := ⟨2, ![4, 20000]⟩
abbrev S4x2048 : Shape := ⟨2, ![4, 2048]⟩
abbrev S4x20000x1 : Shape := ⟨3, ![4, 20000, 1]⟩
abbrev S4x20000x18 : Shape := ⟨3, ![4, 20000, 18]⟩
abbrev S4x2048x1 : Shape := ⟨3, ![4, 2048, 1]⟩
abbrev S1 : Shape := ⟨1, ![1]⟩
abbrev S1x1x1 : Shape := ⟨3, ![1, 1, 1]⟩
abbrev S4x2048x18 : Shape := ⟨3, ![4, 2048, 18]⟩
abbrev S4x2048x8 : Shape := ⟨3, ![4, 2048, 8]⟩
abbrev S4x8x2048 : Shape := ⟨3, ![4, 8, 2048]⟩
abbrev S4x512x16 : Shape := ⟨3, ![4, 512, 16]⟩
abbrev S4x512x8 : Shape := ⟨3, ![4, 512, 8]⟩
abbrev S1x2048x18 : Shape := ⟨3, ![1, 2048, 18]⟩
abbrev S1x8x2048 : Shape := ⟨3, ![1, 8, 2048]⟩
abbrev S1x512x16 : Shape := ⟨3, ![1, 512, 16]⟩
abbrev S1x512x8 : Shape := ⟨3, ![1, 512, 8]⟩
abbrev S2048x2048 : Shape := ⟨2, ![2048, 2048]⟩
abbrev S2048x18 : Shape := ⟨2, ![2048, 18]⟩
abbrev S8x2048 : Shape := ⟨2, ![8, 2048]⟩
abbrev S2048x1 : Shape := ⟨2, ![2048, 1]⟩
abbrev S1x2048 : Shape := ⟨2, ![1, 2048]⟩
abbrev S256x1 : Shape := ⟨2, ![256, 1]⟩
abbrev S256x2048 : Shape := ⟨2, ![256, 2048]⟩
abbrev S1x1792 : Shape := ⟨2, ![1, 1792]⟩
abbrev S256x1792 : Shape := ⟨2, ![256, 1792]⟩
abbrev S1x1536 : Shape := ⟨2, ![1, 1536]⟩
abbrev S256x1536 : Shape := ⟨2, ![256, 1536]⟩
abbrev S1x1280 : Shape := ⟨2, ![1, 1280]⟩
abbrev S256x1280 : Shape := ⟨2, ![256, 1280]⟩
abbrev S1x1024 : Shape := ⟨2, ![1, 1024]⟩
abbrev S256x1024 : Shape := ⟨2, ![256, 1024]⟩
abbrev S1x768 : Shape := ⟨2, ![1, 768]⟩
abbrev S256x768 : Shape := ⟨2, ![256, 768]⟩
abbrev S1x512 : Shape := ⟨2, ![1, 512]⟩
abbrev S256x512 : Shape := ⟨2, ![256, 512]⟩
abbrev S1x256 : Shape := ⟨2, ![1, 256]⟩
abbrev S256x256 : Shape := ⟨2, ![256, 256]⟩
abbrev S1x1x2048 : Shape := ⟨3, ![1, 1, 2048]⟩
abbrev S1x1 : Shape := ⟨2, ![1, 1]⟩
abbrev S1x2047 : Shape := ⟨2, ![1, 2047]⟩
abbrev S1x2 : Shape := ⟨2, ![1, 2]⟩
abbrev S1x2046 : Shape := ⟨2, ![1, 2046]⟩
abbrev S1x4 : Shape := ⟨2, ![1, 4]⟩
abbrev S1x2044 : Shape := ⟨2, ![1, 2044]⟩
abbrev S1x8 : Shape := ⟨2, ![1, 8]⟩
abbrev S1x2040 : Shape := ⟨2, ![1, 2040]⟩
abbrev S1x16 : Shape := ⟨2, ![1, 16]⟩
abbrev S1x2032 : Shape := ⟨2, ![1, 2032]⟩
abbrev S1x32 : Shape := ⟨2, ![1, 32]⟩
abbrev S1x2016 : Shape := ⟨2, ![1, 2016]⟩
abbrev S1x64 : Shape := ⟨2, ![1, 64]⟩
abbrev S1x1984 : Shape := ⟨2, ![1, 1984]⟩
abbrev S1x128 : Shape := ⟨2, ![1, 128]⟩
abbrev S1x1920 : Shape := ⟨2, ![1, 1920]⟩
abbrev S512x1 : Shape := ⟨2, ![512, 1]⟩
abbrev S512x2048 : Shape := ⟨2, ![512, 2048]⟩
abbrev S2048x10 : Shape := ⟨2, ![2048, 10]⟩
abbrev S512x10 : Shape := ⟨2, ![512, 10]⟩
abbrev S512x6 : Shape := ⟨2, ![512, 6]⟩
abbrev S512x16 : Shape := ⟨2, ![512, 16]⟩
abbrev S512x3 : Shape := ⟨2, ![512, 3]⟩
abbrev S512 : Shape := ⟨1, ![512]⟩
abbrev S512x8 : Shape := ⟨2, ![512, 8]⟩
abbrev S4x500x7 : Shape := ⟨3, ![4, 500, 7]⟩
abbrev S4x500x3 : Shape := ⟨3, ![4, 500, 3]⟩
abbrev S4x500x1 : Shape := ⟨3, ![4, 500, 1]⟩
abbrev S4x500 : Shape := ⟨2, ![4, 500]⟩
abbrev S2000x1 : Shape := ⟨2, ![2000, 1]⟩

abbrev nBuf : Space → Nat
  | .hbm => 51
  | .vmem => 9
  | .smem => 0
  | _ => 0

abbrev bufTy : (tb : Table) → Fin (tcTables nBuf tb) → BufTy
  | .hbm, ⟨0, _⟩ => ⟨S4x20000x7, .f32⟩
  | .hbm, ⟨1, _⟩ => ⟨S4x20000x7, .f32⟩
  | .hbm, ⟨2, _⟩ => ⟨S4x20000x3, .f32⟩
  | .hbm, ⟨3, _⟩ => ⟨S4x20000x3, .f32⟩
  | .hbm, ⟨4, _⟩ => ⟨S_, .f32⟩
  | .hbm, ⟨5, _⟩ => ⟨S4x20000, .f32⟩
  | .hbm, ⟨6, _⟩ => ⟨S_, .f32⟩
  | .hbm, ⟨7, _⟩ => ⟨S4x20000, .f32⟩
  | .hbm, ⟨8, _⟩ => ⟨S4x20000, .i1⟩
  | .hbm, ⟨9, _⟩ => ⟨S_, .f32⟩
  | .hbm, ⟨10, _⟩ => ⟨S_, .f32⟩
  | .hbm, ⟨11, _⟩ => ⟨S4x20000, .f32⟩
  | .hbm, ⟨12, _⟩ => ⟨S4x20000, .f32⟩
  | .hbm, ⟨13, _⟩ => ⟨S4x2048, .f32⟩
  | .hbm, ⟨14, _⟩ => ⟨S4x2048, .i32⟩
  | .hbm, ⟨15, _⟩ => ⟨S4x20000x1, .f32⟩
  | .hbm, ⟨16, _⟩ => ⟨S4x20000x18, .f32⟩
  | .hbm, ⟨17, _⟩ => ⟨S4x2048x1, .i32⟩
  | .hbm, ⟨18, _⟩ => ⟨S_, .i32⟩
  | .hbm, ⟨19, _⟩ => ⟨S4x2048x1, .i32⟩
  | .hbm, ⟨20, _⟩ => ⟨S4x2048x1, .i1⟩
  | .hbm, ⟨21, _⟩ => ⟨S_, .i32⟩
  | .hbm, ⟨22, _⟩ => ⟨S4x2048x1, .i32⟩
  | .hbm, ⟨23, _⟩ => ⟨S4x2048x1, .i32⟩
  | .hbm, ⟨24, _⟩ => ⟨S4x2048x1, .i32⟩
  | .hbm, ⟨25, _⟩ => ⟨S1, .i32⟩
  | .hbm, ⟨26, _⟩ => ⟨S_, .i32⟩
  | .hbm, ⟨27, _⟩ => ⟨S4x2048x1, .i32⟩
  | .hbm, ⟨28, _⟩ => ⟨S4x2048x1, .i1⟩
  | .hbm, ⟨29, _⟩ => ⟨S1x1x1, .i32⟩
  | .hbm, ⟨30, _⟩ => ⟨S4x2048x1, .i32⟩
  | .hbm, ⟨31, _⟩ => ⟨S4x2048x1, .i1⟩
  | .hbm, ⟨32, _⟩ => ⟨S4x2048x1, .i1⟩
  | .hbm, ⟨33, _⟩ => ⟨S_, .i1⟩
  | .hbm, ⟨34, _⟩ => ⟨S4x2048, .i1⟩
  | .hbm, ⟨35, _⟩ => ⟨S4x2048x18, .f32⟩
  | .hbm, ⟨36, _⟩ => ⟨S4x2048x18, .i1⟩
  | .hbm, ⟨37, _⟩ => ⟨S_, .f32⟩
  | .hbm, ⟨38, _⟩ => ⟨S4x2048x18, .f32⟩
  | .hbm, ⟨39, _⟩ => ⟨S4x2048x18, .f32⟩
  | .hbm, ⟨40, _⟩ => ⟨S4x2048x8, .f32⟩
  | .hbm, ⟨41, _⟩ => ⟨S4x8x2048, .f32⟩
  | .hbm, ⟨42, _⟩ => ⟨S4x512x16, .f32⟩
  | .hbm, ⟨43, _⟩ => ⟨S4x512x8, .f32⟩
  | .hbm, ⟨44, _⟩ => ⟨S4x500x7, .f32⟩
  | .hbm, ⟨45, _⟩ => ⟨S4x500x3, .f32⟩
  | .hbm, ⟨46, _⟩ => ⟨S4x500x1, .f32⟩
  | .hbm, ⟨47, _⟩ => ⟨S4x500, .f32⟩
  | .hbm, ⟨48, _⟩ => ⟨S4x500x1, .f32⟩
  | .hbm, ⟨49, _⟩ => ⟨S4x500, .f32⟩
  | .hbm, ⟨50, _⟩ => ⟨S2000x1, .f32⟩
  | .local _ .vmem, ⟨0, _⟩ => ⟨S1x2048x18, .f32⟩
  | .local _ .vmem, ⟨1, _⟩ => ⟨S1x2048x18, .f32⟩
  | .local _ .vmem, ⟨2, _⟩ => ⟨S1x8x2048, .f32⟩
  | .local _ .vmem, ⟨3, _⟩ => ⟨S1x8x2048, .f32⟩
  | .local _ .vmem, ⟨4, _⟩ => ⟨S1x512x16, .f32⟩
  | .local _ .vmem, ⟨5, _⟩ => ⟨S1x512x16, .f32⟩
  | .local _ .vmem, ⟨6, _⟩ => ⟨S1x512x8, .f32⟩
  | .local _ .vmem, ⟨7, _⟩ => ⟨S1x512x8, .f32⟩
  | .local _ .vmem, ⟨8, _⟩ => ⟨S2048x2048, .bf16⟩
  | _, _ => ⟨S4x20000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_values : Ref sig .tc := ⟨.hbm, 13, rfl⟩
abbrev main_indices : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_c_2 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_c_3 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10_0 : Ref sig .tc := ⟨.hbm, 42, rfl⟩
abbrev main_v10_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x20000x7 : Shape := ⟨3, ![4, 20000, 7]⟩
abbrev S4x20000x3 : Shape := ⟨3, ![4, 20000, 3]⟩
abbrev S_ : Shape := ⟨0, ![]⟩
abbrev S4x20000 : Shape := ⟨2, ![4, 20000]⟩
abbrev S4x2048 : Shape := ⟨2, ![4, 2048]⟩
abbrev S4x2048x1 : Shape := ⟨3, ![4, 2048, 1]⟩
abbrev S1 : Shape := ⟨1, ![1]⟩
abbrev S1x1x1 : Shape := ⟨3, ![1, 1, 1]⟩
abbrev S4x2048x7 : Shape := ⟨3, ![4, 2048, 7]⟩
abbrev S4x1x2048 : Shape := ⟨3, ![4, 1, 2048]⟩
abbrev S4x2048x2048 : Shape := ⟨3, ![4, 2048, 2048]⟩
abbrev S2048 : Shape := ⟨1, ![2048]⟩
abbrev S4x1 : Shape := ⟨2, ![4, 1]⟩
abbrev S1x2048 : Shape := ⟨2, ![1, 2048]⟩
abbrev S4x500 : Shape := ⟨2, ![4, 500]⟩
abbrev S4x500x1 : Shape := ⟨3, ![4, 500, 1]⟩
abbrev S4x500x7 : Shape := ⟨3, ![4, 500, 7]⟩
abbrev S4x500x3 : Shape := ⟨3, ![4, 500, 3]⟩
abbrev S2000x3 : Shape := ⟨2, ![2000, 3]⟩
abbrev S2000 : Shape := ⟨1, ![2000]⟩
abbrev S2000x1 : Shape := ⟨2, ![2000, 1]⟩

abbrev nBuf : Space → Nat
  | .hbm => 269
  | .vmem => 0
  | .smem => 0
  | _ => 0

abbrev hbmTy0_0 (i : Nat) : BufTy := match i % 128 with
  | 0 => ⟨S4x20000x7, .f32⟩
  | 1 => ⟨S4x20000x7, .f32⟩
  | 2 => ⟨S4x20000x3, .f32⟩
  | 3 => ⟨S4x20000x3, .f32⟩
  | 4 => ⟨S_, .f32⟩
  | 5 => ⟨S4x20000, .f32⟩
  | 6 => ⟨S_, .f32⟩
  | 7 => ⟨S4x20000, .f32⟩
  | 8 => ⟨S4x20000, .i1⟩
  | 9 => ⟨S_, .f32⟩
  | 10 => ⟨S_, .f32⟩
  | 11 => ⟨S4x20000, .f32⟩
  | 12 => ⟨S4x20000, .f32⟩
  | 13 => ⟨S4x2048, .f32⟩
  | 14 => ⟨S4x2048, .i32⟩
  | 15 => ⟨S4x2048x1, .i32⟩
  | 16 => ⟨S_, .i32⟩
  | 17 => ⟨S4x2048x1, .i32⟩
  | 18 => ⟨S4x2048x1, .i1⟩
  | 19 => ⟨S_, .i32⟩
  | 20 => ⟨S4x2048x1, .i32⟩
  | 21 => ⟨S4x2048x1, .i32⟩
  | 22 => ⟨S4x2048x1, .i32⟩
  | 23 => ⟨S1, .i32⟩
  | 24 => ⟨S_, .i32⟩
  | 25 => ⟨S4x2048x1, .i32⟩
  | 26 => ⟨S4x2048x1, .i1⟩
  | 27 => ⟨S1x1x1, .i32⟩
  | 28 => ⟨S4x2048x1, .i32⟩
  | 29 => ⟨S4x2048x1, .i1⟩
  | 30 => ⟨S4x2048x1, .i1⟩
  | 31 => ⟨S_, .i1⟩
  | 32 => ⟨S4x2048, .i1⟩
  | 33 => ⟨S4x2048x7, .f32⟩
  | 34 => ⟨S4x2048x7, .i1⟩
  | 35 => ⟨S_, .f32⟩
  | 36 => ⟨S4x2048x7, .f32⟩
  | 37 => ⟨S4x2048x7, .f32⟩
  | 38 => ⟨S4x2048x1, .f32⟩
  | 39 => ⟨S4x2048, .f32⟩
  | 40 => ⟨S4x2048x1, .f32⟩
  | 41 => ⟨S4x2048, .f32⟩
  | 42 => ⟨S_, .f32⟩
  | 43 => ⟨S4x2048, .f32⟩
  | 44 => ⟨S4x2048, .f32⟩
  | 45 => ⟨S4x2048, .f32⟩
  | 46 => ⟨S4x2048x1, .f32⟩
  | 47 => ⟨S4x2048, .f32⟩
  | 48 => ⟨S4x2048x1, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S4x2048x1, .f32⟩
  | 55 => ⟨S4x2048, .f32⟩
  | 56 => ⟨S4x2048x1, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S4x2048x1, .f32⟩
  | 63 => ⟨S4x2048, .f32⟩
  | 64 => ⟨S4x2048x1, .f32⟩
  | 65 => ⟨S4x2048, .f32⟩
  | 66 => ⟨S_, .f32⟩
  | 67 => ⟨S4x2048, .f32⟩
  | 68 => ⟨S4x2048, .f32⟩
  | 69 => ⟨S4x2048, .f32⟩
  | 70 => ⟨S4x2048, .f32⟩
  | 71 => ⟨S4x2048, .f32⟩
  | 72 => ⟨S4x2048, .f32⟩
  | 73 => ⟨S4x2048x1, .f32⟩
  | 74 => ⟨S4x1x2048, .f32⟩
  | 75 => ⟨S4x2048x2048, .f32⟩
  | 76 => ⟨S4x2048x2048, .f32⟩
  | 77 => ⟨S4x2048x2048, .f32⟩
  | 78 => ⟨S4x2048x1, .f32⟩
  | 79 => ⟨S4x1x2048, .f32⟩
  | 80 => ⟨S4x2048x2048, .f32⟩
  | 81 => ⟨S4x2048x2048, .f32⟩
  | 82 => ⟨S4x2048x2048, .f32⟩
  | 83 => ⟨S4x2048x1, .f32⟩
  | 84 => ⟨S4x1x2048, .f32⟩
  | 85 => ⟨S4x2048x2048, .f32⟩
  | 86 => ⟨S4x2048x2048, .f32⟩
  | 87 => ⟨S4x2048x2048, .f32⟩
  | 88 => ⟨S4x2048x1, .f32⟩
  | 89 => ⟨S4x1x2048, .f32⟩
  | 90 => ⟨S4x2048x2048, .f32⟩
  | 91 => ⟨S4x2048x2048, .f32⟩
  | 92 => ⟨S4x2048x2048, .f32⟩
  | 93 => ⟨S4x2048x2048, .f32⟩
  | 94 => ⟨S_, .f32⟩
  | 95 => ⟨S_, .f32⟩
  | 96 => ⟨S4x2048x2048, .f32⟩
  | 97 => ⟨S4x2048x2048, .f32⟩
  | 98 => ⟨S4x2048x2048, .f32⟩
  | 99 => ⟨S_, .f32⟩
  | 100 => ⟨S_, .f32⟩
  | 101 => ⟨S4x2048x2048, .f32⟩
  | 102 => ⟨S4x2048x2048, .f32⟩
  | 103 => ⟨S4x2048x2048, .f32⟩
  | 104 => ⟨S4x2048x1, .f32⟩
  | 105 => ⟨S4x1x2048, .f32⟩
  | 106 => ⟨S4x2048x2048, .f32⟩
  | 107 => ⟨S4x2048x2048, .f32⟩
  | 108 => ⟨S4x2048x2048, .f32⟩
  | 109 => ⟨S4x2048x2048, .f32⟩
  | 110 => ⟨S_, .f32⟩
  | 111 => ⟨S4x2048x2048, .f32⟩
  | 112 => ⟨S4x2048x2048, .f32⟩
  | 113 => ⟨S4x2048x2048, .f32⟩
  | 114 => ⟨S_, .f32⟩
  | 115 => ⟨S4x2048, .f32⟩
  | 116 => ⟨S4x2048, .i1⟩
  | 117 => ⟨S_, .f32⟩
  | 118 => ⟨S4x2048, .f32⟩
  | 119 => ⟨S4x2048, .i1⟩
  | 120 => ⟨S4x2048, .i1⟩
  | 121 => ⟨S2048, .i32⟩
  | 122 => ⟨S_, .i32⟩
  | 123 => ⟨S_, .i32⟩
  | 124 => ⟨S4x2048x2048, .f32⟩
  | 125 => ⟨S2048, .i32⟩
  | 126 => ⟨S_, .i32⟩
  | 127 => ⟨S_, .i32⟩
  | _ => ⟨S4x20000x7, .f32⟩

abbrev hbmTy0_1 (i : Nat) : BufTy := match i % 128 with
  | 0 => ⟨S4x2048, .i1⟩
  | 1 => ⟨S_, .i32⟩
  | 2 => ⟨S_, .i1⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S4x1, .i1⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S4x1x2048, .f32⟩
  | 22 => ⟨S4x2048, .f32⟩
  | 23 => ⟨S_, .f32⟩
  | 24 => ⟨S4x2048, .f32⟩
  | 25 => ⟨S4x2048, .i1⟩
  | 26 => ⟨S4x2048, .i1⟩
  | 27 => ⟨S4x2048, .i1⟩
  | 28 => ⟨S_, .i32⟩
  | 29 => ⟨S2048, .i32⟩
  | 30 => ⟨S2048, .i1⟩
  | 31 => ⟨S1x2048, .i1⟩
  | 32 => ⟨S4x2048, .i1⟩
  | 33 => ⟨S4x2048, .i1⟩
  | 34 => ⟨S4x2048, .i1⟩
  | 35 => ⟨S4x2048, .i1⟩
  | 36 => ⟨S_, .i32⟩
  | 37 => ⟨S_, .i32⟩
  | 38 => ⟨S_, .f32⟩
  | 39 => ⟨S_, .f32⟩
  | 40 => ⟨S4x2048, .f32⟩
  | 41 => ⟨S4x2048, .f32⟩
  | 42 => ⟨S4x500, .f32⟩
  | 43 => ⟨S4x500, .i32⟩
  | 44 => ⟨S_, .i32⟩
  | 45 => ⟨S4x500, .i32⟩
  | 46 => ⟨S4x500, .i1⟩
  | 47 => ⟨S_, .i32⟩
  | 48 => ⟨S4x500, .i32⟩
  | 49 => ⟨S4x500, .i32⟩
  | 50 => ⟨S4x500, .i32⟩
  | 51 => ⟨S4x500x1, .i32⟩
  | 52 => ⟨S1, .i32⟩
  | 53 => ⟨S_, .i32⟩
  | 54 => ⟨S4x500x1, .i32⟩
  | 55 => ⟨S4x500x1, .i1⟩
  | 56 => ⟨S1x1x1, .i32⟩
  | 57 => ⟨S4x500x1, .i32⟩
  | 58 => ⟨S4x500x1, .i1⟩
  | 59 => ⟨S4x500x1, .i1⟩
  | 60 => ⟨S_, .i1⟩
  | 61 => ⟨S4x500, .i1⟩
  | 62 => ⟨S4x500, .i32⟩
  | 63 => ⟨S_, .i32⟩
  | 64 => ⟨S4x500, .i32⟩
  | 65 => ⟨S4x500, .i32⟩
  | 66 => ⟨S_, .f32⟩
  | 67 => ⟨S4x500, .f32⟩
  | 68 => ⟨S4x500, .i1⟩
  | 69 => ⟨S_, .f32⟩
  | 70 => ⟨S4x500, .f32⟩
  | 71 => ⟨S4x500, .i1⟩
  | 72 => ⟨S4x500, .i1⟩
  | 73 => ⟨S_, .i32⟩
  | 74 => ⟨S_, .i32⟩
  | 75 => ⟨S4x500, .i32⟩
  | 76 => ⟨S4x500, .i32⟩
  | 77 => ⟨S4x500x1, .i1⟩
  | 78 => ⟨S4x500x1, .i32⟩
  | 79 => ⟨S_, .i32⟩
  | 80 => ⟨S4x500x1, .i32⟩
  | 81 => ⟨S4x500x1, .i1⟩
  | 82 => ⟨S_, .i32⟩
  | 83 => ⟨S4x500x1, .i32⟩
  | 84 => ⟨S4x500x1, .i32⟩
  | 85 => ⟨S4x500x1, .i32⟩
  | 86 => ⟨S1, .i32⟩
  | 87 => ⟨S_, .i32⟩
  | 88 => ⟨S4x500x1, .i32⟩
  | 89 => ⟨S4x500x1, .i1⟩
  | 90 => ⟨S1x1x1, .i32⟩
  | 91 => ⟨S4x500x1, .i32⟩
  | 92 => ⟨S4x500x1, .i1⟩
  | 93 => ⟨S4x500x1, .i1⟩
  | 94 => ⟨S_, .i1⟩
  | 95 => ⟨S4x500, .i1⟩
  | 96 => ⟨S4x500x7, .f32⟩
  | 97 => ⟨S4x500x7, .i1⟩
  | 98 => ⟨S_, .f32⟩
  | 99 => ⟨S4x500x7, .f32⟩
  | 100 => ⟨S4x500x7, .f32⟩
  | 101 => ⟨S_, .f32⟩
  | 102 => ⟨S_, .f32⟩
  | 103 => ⟨S4x500x7, .i1⟩
  | 104 => ⟨S4x500x7, .f32⟩
  | 105 => ⟨S4x500x7, .f32⟩
  | 106 => ⟨S4x500x1, .i32⟩
  | 107 => ⟨S_, .i32⟩
  | 108 => ⟨S4x500x1, .i32⟩
  | 109 => ⟨S4x500x1, .i1⟩
  | 110 => ⟨S_, .i32⟩
  | 111 => ⟨S4x500x1, .i32⟩
  | 112 => ⟨S4x500x1, .i32⟩
  | 113 => ⟨S4x500x1, .i32⟩
  | 114 => ⟨S1, .i32⟩
  | 115 => ⟨S_, .i32⟩
  | 116 => ⟨S4x500x1, .i32⟩
  | 117 => ⟨S4x500x1, .i1⟩
  | 118 => ⟨S1x1x1, .i32⟩
  | 119 => ⟨S4x500x1, .i32⟩
  | 120 => ⟨S4x500x1, .i1⟩
  | 121 => ⟨S4x500x1, .i1⟩
  | 122 => ⟨S_, .i1⟩
  | 123 => ⟨S4x500, .i1⟩
  | 124 => ⟨S4x500x3, .f32⟩
  | 125 => ⟨S4x500x3, .i1⟩
  | 126 => ⟨S_, .f32⟩
  | 127 => ⟨S4x500x3, .f32⟩
  | _ => ⟨S4x20000x7, .f32⟩

abbrev hbmTy0_2 (i : Nat) : BufTy := match i % 128 with
  | 0 => ⟨S4x500x3, .f32⟩
  | 1 => ⟨S_, .f32⟩
  | 2 => ⟨S_, .f32⟩
  | 3 => ⟨S4x500x3, .i1⟩
  | 4 => ⟨S4x500x3, .f32⟩
  | 5 => ⟨S4x500x3, .f32⟩
  | 6 => ⟨S4x500, .f32⟩
  | 7 => ⟨S2000x3, .f32⟩
  | 8 => ⟨S_, .f32⟩
  | 9 => ⟨S2000, .f32⟩
  | 10 => ⟨S2000x1, .f32⟩
  | 11 => ⟨S2000x1, .f32⟩
  | 12 => ⟨S2000x1, .f32⟩
  | _ => ⟨S4x20000x7, .f32⟩

abbrev hbmTy (i : Nat) : BufTy := match i / 128 with
  | 0 => hbmTy0_0 i
  | 1 => hbmTy0_1 i
  | 2 => hbmTy0_2 i
  | _ => ⟨S4x20000x7, .f32⟩

abbrev bufTy : (tb : Table) → Fin (tcTables nBuf tb) → BufTy
  | .hbm, ⟨i, _⟩ => hbmTy i
  | _, _ => ⟨S4x20000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_values : Ref sig .tc := ⟨.hbm, 13, rfl⟩
abbrev main_indices : Ref sig .tc := ⟨.hbm, 14, rfl⟩
abbrev main_v4 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_c_2 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_c_3 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_3 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_6 : Ref sig .tc := ⟨.hbm, 94, rfl⟩
abbrev main_call2_v0 : Ref sig .tc := ⟨.hbm, 95, rfl⟩
abbrev main_call2_v1 : Ref sig .tc := ⟨.hbm, 96, rfl⟩
abbrev main_v58 : Ref sig .tc := ⟨.hbm, 97, rfl⟩
abbrev main_v59 : Ref sig .tc := ⟨.hbm, 98, rfl⟩
abbrev main_cst_7 : Ref sig .tc := ⟨.hbm, 99, rfl⟩
abbrev main_call3_v0 : Ref sig .tc := ⟨.hbm, 100, rfl⟩
abbrev main_call3_v1 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_8 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_9 : Ref sig .tc := ⟨.hbm, 114, rfl⟩
abbrev main_v71 : Ref sig .tc := ⟨.hbm, 115, rfl⟩
abbrev main_v72 : Ref sig .tc := ⟨.hbm, 116, rfl⟩
abbrev main_cst_10 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c : Ref sig .tc := ⟨.hbm, 122, rfl⟩
abbrev main_c_11 : Ref sig .tc := ⟨.hbm, 123, rfl⟩
abbrev main_v77_0 : Ref sig .tc := ⟨.hbm, 124, rfl⟩
abbrev main_v77_1 : Ref sig .tc := ⟨.hbm, 125, rfl⟩
abbrev main_v77_2 : Ref sig .tc := ⟨.hbm, 126, rfl⟩
abbrev main_v77_3 : Ref sig .tc := ⟨.hbm, 127, rfl⟩
abbrev main_v77_4 : Ref sig .tc := ⟨.hbm, 128, rfl⟩
abbrev main_while0c_c_25 : Ref sig .tc := ⟨.hbm, 129, rfl⟩
abbrev main_while0c_v99 : Ref sig .tc := ⟨.hbm, 130, rfl⟩
abbrev main_while0b_c_25 : Ref sig .tc := ⟨.hbm, 131, rfl⟩
abbrev main_while0b_v99 : Ref sig .tc := ⟨.hbm, 132, rfl⟩
abbrev main_while0b_c_26 : Ref sig .tc := ⟨.hbm, 133, rfl⟩
abbrev main_while0b_v100 : Ref sig .tc := ⟨.hbm, 134, rfl⟩
abbrev main_while0b_v101 : Ref sig .tc := ⟨.hbm, 135, rfl⟩
abbrev main_while0b_c_27 : Ref sig .tc := ⟨.hbm, 136, rfl⟩
abbrev main_while0b_v102 : Ref sig .tc := ⟨.hbm, 137, rfl⟩
abbrev main_while0b_v103 : Ref sig .tc := ⟨.hbm, 138, rfl⟩
abbrev main_while0b_c_28 : Ref sig .tc := ⟨.hbm, 139, rfl⟩
abbrev main_while0b_v104 : Ref sig .tc := ⟨.hbm, 140, rfl⟩
abbrev main_while0b_call4_c : Ref sig .tc := ⟨.hbm, 141, rfl⟩
abbrev main_while0b_call4_v0 : Ref sig .tc := ⟨.hbm, 142, rfl⟩
abbrev main_while0b_call4_v1 : Ref sig .tc := ⟨.hbm, 143, rfl⟩
abbrev main_while0b_call4_c_0 : Ref sig .tc := ⟨.hbm, 144, rfl⟩
abbrev main_while0b_call4_v2 : Ref sig .tc := ⟨.hbm, 145, rfl⟩
abbrev main_while0b_call4_v3 : Ref sig .tc := ⟨.hbm, 146, rfl⟩
abbrev main_while0b_call4_c_1 : Ref sig .tc := ⟨.hbm, 147, rfl⟩
abbrev main_while0b_call4_c_2 : Ref sig .tc := ⟨.hbm, 148, rfl⟩
abbrev main_while0b_call4_v4 : Ref sig .tc := ⟨.hbm, 149, rfl⟩
abbrev main_while0b_v105 : Ref sig .tc := ⟨.hbm, 150, rfl⟩
abbrev main_while0b_cst_29 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_c_30 : Ref sig .tc := ⟨.hbm, 164, rfl⟩
abbrev main_while0b_v118 : Ref sig .tc := ⟨.hbm, 165, rfl⟩
abbrev main_cst_12 : Ref sig .tc := ⟨.hbm, 166, rfl⟩
abbrev main_call5_v0 : Ref sig .tc := ⟨.hbm, 167, rfl⟩
abbrev main_call5_v1 : Ref sig .tc := ⟨.hbm, 168, rfl⟩
abbrev main_v78 : Ref sig .tc := ⟨.hbm, 169, rfl⟩
abbrev main_values_13 : Ref sig .tc := ⟨.hbm, 170, rfl⟩
abbrev main_indices_14 : Ref sig .tc := ⟨.hbm, 171, rfl⟩
abbrev main_call6_c : Ref sig .tc := ⟨.hbm, 172, rfl⟩
abbrev main_call6_v0 : Ref sig .tc := ⟨.hbm, 173, rfl⟩
abbrev main_call6_v1 : Ref sig .tc := ⟨.hbm, 174, rfl⟩
abbrev main_call6_c_0 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_c_1 : Ref sig .tc := ⟨.hbm, 180, rfl⟩
abbrev main_call6_c_2 : Ref sig .tc := ⟨.hbm, 181, rfl⟩
abbrev main_call6_v6 : Ref sig .tc := ⟨.hbm, 182, rfl⟩
abbrev main_call6_v7 : Ref sig .tc := ⟨.hbm, 183, rfl⟩
abbrev main_call6_v8 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_c_3 : Ref sig .tc := ⟨.hbm, 188, rfl⟩
abbrev main_call6_v12 : Ref sig .tc := ⟨.hbm, 189, rfl⟩
abbrev main_call6_v13 : Ref sig .tc := ⟨.hbm, 190, rfl⟩
abbrev main_call6_c_4 : Ref sig .tc := ⟨.hbm, 191, rfl⟩
abbrev main_call6_v14 : Ref sig .tc := ⟨.hbm, 192, rfl⟩
abbrev main_v79 : Ref sig .tc := ⟨.hbm, 193, rfl⟩
abbrev main_cst_15 : Ref sig .tc := ⟨.hbm, 194, rfl⟩
abbrev main_v80 : Ref sig .tc := ⟨.hbm, 195, rfl⟩
abbrev main_v81 : Ref sig .tc := ⟨.hbm, 196, rfl⟩
abbrev main_cst_16 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_c_17 : Ref sig .tc := ⟨.hbm, 201, rfl⟩
abbrev main_call7_v0 : Ref sig .tc := ⟨.hbm, 202, rfl⟩
abbrev main_call7_v1 : Ref sig .tc := ⟨.hbm, 203, rfl⟩
abbrev main_v85 : Ref sig .tc := ⟨.hbm, 204, rfl⟩
abbrev main_v86 : Ref sig .tc := ⟨.hbm, 205, rfl⟩
abbrev main_v87 : Ref sig .tc := ⟨.hbm, 206, rfl⟩
abbrev main_call8_c : Ref sig .tc := ⟨.hbm, 207, rfl⟩
abbrev main_call8_v0 : Ref sig .tc := ⟨.hbm, 208, rfl⟩
abbrev main_call8_v1 : Ref sig .tc := ⟨.hbm, 209, rfl⟩
abbrev main_call8_c_0 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_call8_c_1 : Ref sig .tc := ⟨.hbm, 214, rfl⟩
abbrev main_call8_c_2 : Ref sig .tc := ⟨.hbm, 215, rfl⟩
abbrev main_call8_v5 : Ref sig .tc := ⟨.hbm, 216, rfl⟩
abbrev main_call8_v6 : Ref sig .tc := ⟨.hbm, 217, rfl⟩
abbrev main_call8_v7 : Ref sig .tc := ⟨.hbm, 218, rfl⟩
abbrev main_call8_v8 : Ref sig .tc := ⟨.hbm, 219, rfl⟩
abbrev main_call8_v9 : Ref sig .tc := ⟨.hbm, 220, rfl⟩
abbrev main_call8_v10 : Ref sig .tc := ⟨.hbm, 221, rfl⟩
abbrev main_call8_c_3 : Ref sig .tc := ⟨.hbm, 222, rfl⟩
abbrev main_call8_v11 : Ref sig .tc := ⟨.hbm, 223, rfl⟩
abbrev main_call8_v12 : Ref sig .tc := ⟨.hbm, 224, rfl⟩
abbrev main_call8_v13 : Ref sig .tc := ⟨.hbm, 225, rfl⟩
abbrev main_call8_cst : Ref sig .tc := ⟨.hbm, 226, rfl⟩
abbrev main_call8_v14 : Ref sig .tc := ⟨.hbm, 227, rfl⟩
abbrev main_v88 : Ref sig .tc := ⟨.hbm, 228, rfl⟩
abbrev main_cst_18 : Ref sig .tc := ⟨.hbm, 229, rfl⟩
abbrev main_call9_v0 : Ref sig .tc := ⟨.hbm, 230, rfl⟩
abbrev main_call9_v1 : Ref sig .tc := ⟨.hbm, 231, rfl⟩
abbrev main_call9_v2 : Ref sig .tc := ⟨.hbm, 232, rfl⟩
abbrev main_v89 : Ref sig .tc := ⟨.hbm, 233, rfl⟩
abbrev main_v90 : Ref sig .tc := ⟨.hbm, 234, rfl⟩
abbrev main_call10_c : Ref sig .tc := ⟨.hbm, 235, rfl⟩
abbrev main_call10_v0 : Ref sig .tc := ⟨.hbm, 236, rfl⟩
abbrev main_call10_v1 : Ref sig .tc := ⟨.hbm, 237, rfl⟩
abbrev main_call10_c_0 : Ref sig .tc := ⟨.hbm, 238, rfl⟩
abbrev main_call10_v2 : Ref sig .tc := ⟨.hbm, 239, rfl⟩
abbrev main_call10_v3 : Ref sig .tc := ⟨.hbm, 240, rfl⟩
abbrev main_call10_v4 : Ref sig .tc := ⟨.hbm, 241, rfl⟩
abbrev main_call10_c_1 : Ref sig .tc := ⟨.hbm, 242, rfl⟩
abbrev main_call10_c_2 : Ref sig .tc := ⟨.hbm, 243, rfl⟩
abbrev main_call10_v5 : Ref sig .tc := ⟨.hbm, 244, rfl⟩
abbrev main_call10_v6 : Ref sig .tc := ⟨.hbm, 245, rfl⟩
abbrev main_call10_v7 : Ref sig .tc := ⟨.hbm, 246, rfl⟩
abbrev main_call10_v8 : Ref sig .tc := ⟨.hbm, 247, rfl⟩
abbrev main_call10_v9 : Ref sig .tc := ⟨.hbm, 248, rfl⟩
abbrev main_call10_v10 : Ref sig .tc := ⟨.hbm, 249, rfl⟩
abbrev main_call10_c_3 : Ref sig .tc := ⟨.hbm, 250, rfl⟩
abbrev main_call10_v11 : Ref sig .tc := ⟨.hbm, 251, rfl⟩
abbrev main_call10_v12 : Ref sig .tc := ⟨.hbm, 252, rfl⟩
abbrev main_call10_v13 : Ref sig .tc := ⟨.hbm, 253, rfl⟩
abbrev main_call10_cst : Ref sig .tc := ⟨.hbm, 254, rfl⟩
abbrev main_call10_v14 : Ref sig .tc := ⟨.hbm, 255, rfl⟩
abbrev main_v91 : Ref sig .tc := ⟨.hbm, 256, rfl⟩
abbrev main_cst_19 : Ref sig .tc := ⟨.hbm, 257, rfl⟩
abbrev main_call11_v0 : Ref sig .tc := ⟨.hbm, 258, rfl⟩
abbrev main_call11_v1 : Ref sig .tc := ⟨.hbm, 259, rfl⟩
abbrev main_call11_v2 : Ref sig .tc := ⟨.hbm, 260, rfl⟩
abbrev main_v92 : Ref sig .tc := ⟨.hbm, 261, rfl⟩
abbrev main_v93 : Ref sig .tc := ⟨.hbm, 262, rfl⟩
abbrev main_v94 : Ref sig .tc := ⟨.hbm, 263, rfl⟩
abbrev main_cst_20 : Ref sig .tc := ⟨.hbm, 264, rfl⟩
abbrev main_v95 : Ref sig .tc := ⟨.hbm, 265, rfl⟩
abbrev main_v96 : Ref sig .tc := ⟨.hbm, 266, rfl⟩
abbrev main_v97 : Ref sig .tc := ⟨.hbm, 267, rfl⟩
abbrev main_v98 : Ref sig .tc := ⟨.hbm, 268, rfl⟩

abbrev nD : Nat := 1
abbrev τ : Topo := Topo.v7x

variable {F : FTy → Type} [FloatOps F]

abbrev main_while0_count : Scf.Loop 32 := ⟨0#32, 2048#32, 1#32⟩
-- ==== Proof.Around.lean ====
/-
  The kernel program around its one grid: the host operations before it (scores, top-k, candidate gather), the grid's
  four points, and the host operations after it (slices and reshapes of the two result arrays). This module states what
  each array holds when the grid starts, that the host operations after it write no argument and no array of the grid,
  and what block of its array each input window shows at a grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the grid starts: the launch memory after the host operations before it. -/
abbrev V0 (c : Dev nD) : Valuation τ sig (Elt F) := StableHlo.after (List.flatten [hostOps0, hostOps0_1, hostOps0_2, hostOps0_3, hostOps0_4]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- `main` is the host operations before the grid, the grid, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The host operations after the grid touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the grid. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the grid writes an argument: the grid finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does one after it: each argument ends as launched. -/
theorem W_main_arg0 (dats : (p : Fin _) → (c : Dev nD) → Dat τ (Elt F) Unit ℕ (UR sig nD τ) ℕ (cfgs (F := F) p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs (F := F) p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs (F := F) p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs (F := F) p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- The block of window `w`'s array shown at point `t`, as the array is when the grid starts. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- An input window's staging buffer holds its block at every point, if the body leaves the block in place. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- A run whose final memory is the library's `FramePost` leaves the four arguments unchanged. -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of (win := spec0) main_arg0 (by decide) (by decide))).trans (W_main_arg0 m dats c)),
      (((h c).2 main_arg1 (Pipeline.mem_restRefs_of (win := spec0) main_arg1 (by decide) (by decide))).trans (W_main_arg1 m dats c)),
      (((h c).2 main_arg2 (Pipeline.mem_restRefs_of (win := spec0) main_arg2 (by decide) (by decide))).trans (W_main_arg2 m dats c)),
      (((h c).2 main_arg3 (Pipeline.mem_restRefs_of (win := spec0) main_arg3 (by decide) (by decide))).trans (W_main_arg3 m dats c))⟩) h

/-- The staging buffer each window uses at point `t`, and that it is a whole buffer. -/
abbrev ms0_0 (t : Fin (cfg0 (F := F)).N) : Memref sig .tc .vmem S1x2048x18 .f32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x8x2048 .f32 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x512x16 .f32 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x512x8 .f32 := win0_3.stage ((cfg0 (F := F)).slots t 3)
abbrev hs0_3 (t : Fin (cfg0 (F := F)).N) : (ms0_3 t).IsWhole := hstage0_3 (((cfg0 (F := F)).slots t 3).cast nbuf0_3)
/-- The scratch matrix: one whole buffer. -/
abbrev scM0_0 : Memref sig .tc .vmem S2048x2048 .bf16 := Memref.whole cc0_scratch0

/-- What is held between points beside the windows: the scratch matrix at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.Kern

end
-- ==== Proof.Loop.lean ====
/-
  The kernel's fixed-point loop as a plain function. One turn of the loop takes the current suppressed set to the next
  kept set, the next suppressed set and the number of candidates still undecided (`turn`); the loop repeats the turn while
  that number is positive. `runFrom n s` runs at most `n` turns from state `s`, and `HaltsIn n s` says that the loop's
  test fails within `n` turns. Under `HaltsIn` the program's loop returns `runFrom n s`, whatever the number system.
-/
module

public import proofs.«01_k».proof.Proof.Around

@[expose] public section

noncomputable section

namespace Cert.Proof.Kern

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open sWPT (consume produce)

variable {F : FTy → Type} [FloatOps F]

local notation "𝕄" => MT nD τ sig Unit (Elt F) ℕ (UR sig nD τ) ℕ

/-- What the loop carries: the kept row, the suppressed row, the number undecided. -/
abbrev LoopState (F : FTy → Type) : Type := FVec F S1x2048 .f32 × FVec F S1x2048 .f32 × F .f32

/-- The loop's test: a positive number is undecided. -/
def Goes (s : LoopState F) : Prop := Scalar.cmpf .ogt s.2.2 (Scalar.ofBits .f32 0x00000000#32) = 1#1

instance (s : LoopState F) : Decidable (Goes s) := by unfold Goes; infer_instance

/-- One turn of the loop, for the validity row `va` and the suppression matrix `sm`: it reads only the suppressed row. -/
def turn (va : FVec F S1x2048 .f32) (sm : Vec F S2048x2048 .bf16) (s : LoopState F) : LoopState F :=
  (k0_pay2 va sm s.2.1, k0_pay3 va sm s.2.1, k0_pay4 va sm s.2.1)

/-- At most `n` turns of the loop from `s`, stopping when the test fails. -/
def runFrom (va : FVec F S1x2048 .f32) (sm : Vec F S2048x2048 .bf16) : ℕ → LoopState F → LoopState F
  | 0, s => s
  | n + 1, s => if Goes s then runFrom va sm n (turn va sm s) else s

/-- The loop's test fails within `n` turns from `s`. -/
def HaltsIn (va : FVec F S1x2048 .f32) (sm : Vec F S2048x2048 .bf16) : ℕ → LoopState F → Prop
  | 0, s => ¬ Goes s
  | n + 1, s => Goes s → HaltsIn va sm n (turn va sm s)

/-- The kernel's variants: the naturals, the number of turns that may remain. -/
abbrev 𝒱₀ : Variants := Variants.nat

/-- The loop's specification: holding nothing, it returns `runFrom n s`. -/
def loopSpec (va : FVec F S1x2048 .f32) (sm : Vec F S2048x2048 .bf16) (n : ℕ) (s : LoopState F) :
    sWPT 𝕄 (LoopState F) := pure (runFrom va sm n s)

theorem loopSpec_apply (va : FVec F S1x2048 .f32) (sm : Vec F S2048x2048 .bf16) (n : ℕ) (s : LoopState F)
    (K : LoopState F → sProp 𝕄) : loopSpec va sm n s K = K (runFrom va sm n s) := rfl

/-- The loop's label meets its specification when the loop halts within the variant it is entered at. -/
theorem loopSpec_le (c : Dev nD) (E : Set ℕ) (i : grid0.Coords) (va : FVec F S1x2048 .f32) (sm : Vec F S2048x2048 .bf16) :
    ∀ (n : ℕ) (s : LoopState F), HaltsIn va sm n s → ∀ K, loopSpec va sm n s K
      ⊢ wp frame (wpE (defs₀ (F := F)) 𝒱₀ (c : Thread nD τ) (some n)) E
          (defs₀ (F := F) .tc 1 ⟨i, va, sm, s.1, s.2.1, s.2.2⟩) K := by
  intro n
  induction n with
  | zero =>
    intro s hs K
    rw [loopSpec_apply]
    have hr : runFrom va sm 0 s = (s.1, s.2.1, s.2.2) := by rw [runFrom]
    rw [hr]
    show _ ⊢ wp frame (wpE (defs₀ (F := F)) 𝒱₀ (c : Thread nD τ) (some 0)) E (cc0_while1 i va sm s.1 s.2.1 s.2.2) K
    simp only [cc0_while1_eq_skeleton]; unfold cc0_while1_skel
    have hg : ¬ Scalar.cmpf .ogt s.2.2 (Scalar.ofBits .f32 0x00000000#32) = 1#1 := hs
    simp only [hg, ↓reduceIte, Prog.pure_eq_ret]
    iintro Hk
    rw [wp_ret]; imodintro
    iexact Hk
  | succ n ih =>
    intro s hs K
    rw [loopSpec_apply]
    show _ ⊢ wp frame (wpE (defs₀ (F := F)) 𝒱₀ (c : Thread nD τ) (some (n + 1))) E (cc0_while1 i va sm s.1 s.2.1 s.2.2) K
    simp only [cc0_while1_eq_skeleton]; unfold cc0_while1_skel
    by_cases hg : Scalar.cmpf .ogt s.2.2 (Scalar.ofBits .f32 0x00000000#32) = 1#1
    · have hr : runFrom va sm (n + 1) s = runFrom va sm n (turn va sm s) := if_pos hg
      rw [hr]
      simp only [hg, ↓reduceIte, Prog.lift, Prog.bind_op, Prog.bind_ret, Prog.pure_eq_ret]
      iintro Hk
      iapply (wp_call_spec 𝒱₀ (c : Thread nD τ) (some (n + 1)) E (loopSpec va sm n (turn va sm s)) n
        (fun u hu => by cases hu; exact Nat.lt_succ_self n) (ih (turn va sm s) (hs hg)))
      rw [loopSpec_apply]
      rw [wp_ret]; imodintro
      iexact Hk
    · have hr : runFrom va sm (n + 1) s = (s.1, s.2.1, s.2.2) := if_neg hg
      rw [hr]
      simp only [hg, ↓reduceIte, Prog.pure_eq_ret]
      iintro Hk
      rw [wp_ret]; imodintro
      iexact Hk

end Cert.Proof.Kern

end
-- ==== Proof.Block.lean ====
/-
  What one grid point computes, as plain functions of the two input blocks: the candidates' rows `x0` (one row of eighteen
  numbers each) and the same candidates' first eight columns transposed, `x1`. The suppression matrix is a zero fill with
  eight strips written over it; the loop then runs on the validity row; its kept row gives the two result blocks.
-/
module

public import proofs.«01_k».proof.Proof.Loop

@[expose] public section

noncomputable section

namespace Cert.Proof.Kern

open Cert.KernelIdeal Cert.KernelIdeal.Gen

open Idealize.ShloMosaic

variable {F : FTy → Type} [FloatOps F]

section Strips

variable (x0 : Vec F S1x2048x18 .f32) (x1 : Vec F S1x8x2048 .f32)

/-- The boxes' areas along the row: width times height. -/
def areaRow : FVec F S1x2048 .f32 :=
  k0_pay19 (k0_pay12 x1) (k0_pay13 x1) (k0_pay14 x1) (k0_pay15 x1) (k0_pay16 x1) k0_pay17

/-- The upper `y` edges along the row. -/
def topRow : FVec F S1x2048 .f32 := k0_pay18 (k0_pay15 x1) (k0_pay16 x1) k0_pay17

/-- Rows `0 … 255` of the matrix, over all columns, -/
def strip0 : FVec F S256x2048 .bf16 :=
  k0_pay25 (k0_pay22 (k0_pay7 x0) (k0_pay8 x0) (k0_pay9 x0) (k0_pay10 x0) (k0_pay11 x0) (k0_pay12 x1) (k0_pay13 x1)
    (k0_pay14 x1) (k0_pay15 x1) (k0_pay16 x1) k0_pay17) k0_pay23 k0_pay24 (Scalar.ofBits .f32 0x3F333333#32)

/-- rows `256 … 511`, over the columns from 256, -/
def strip1 : FVec F S256x1792 .bf16 :=
  k0_pay28 (k0_pay26 (k0_pay7 x0) (k0_pay8 x0) (k0_pay9 x0) (k0_pay10 x0) (k0_pay11 x0) (k0_pay12 x1) (k0_pay13 x1)
    (k0_pay14 x1) (topRow x1) (areaRow x1)) k0_pay27 (iota .tc S256x1792 32 [1] iota_S256x1792_d1_w32)

/-- rows `512 … 767`, over the columns from 512, -/
def strip2 : FVec F S256x1536 .bf16 :=
  k0_pay30 (k0_pay29 (k0_pay7 x0) (k0_pay8 x0) (k0_pay9 x0) (k0_pay10 x0) (k0_pay11 x0) (k0_pay12 x1) (k0_pay13 x1)
    (k0_pay14 x1) (topRow x1) (areaRow x1)) (iota .tc S256x1536 32 [0] iota_S256x1536_d0_w32)

/-- rows `768 … 1023`, over the columns from 768, -/
def strip3 : FVec F S256x1280 .bf16 :=
  k0_pay33 (k0_pay31 (k0_pay7 x0) (k0_pay8 x0) (k0_pay9 x0) (k0_pay10 x0) (k0_pay12 x1) (k0_pay13 x1)
      (k0_pay14 x1) (topRow x1))
    (k0_pay32 (k0_pay7 x0) (k0_pay8 x0) (k0_pay9 x0) (k0_pay10 x0) (k0_pay11 x0) (k0_pay12 x1) (k0_pay13 x1)
      (k0_pay14 x1) (topRow x1) (areaRow x1)) (Scalar.ofBits .f32 0x358637BD#32)

/-- rows `1024 … 1279`, over the columns from 1024, -/
def strip4 : FVec F S256x1024 .bf16 :=
  k0_pay37 (k0_pay34 (k0_pay7 x0) (k0_pay8 x0) (k0_pay9 x0) (k0_pay10 x0) (k0_pay12 x1) (k0_pay13 x1)
      (k0_pay14 x1) (topRow x1)) (k0_pay35 (areaRow x1)) (k0_pay36 (k0_pay11 x0))

/-- rows `1280 … 1535`, over the columns from 1280, -/
def strip5 : FVec F S256x768 .bf16 :=
  k0_pay42 (areaRow x1) (k0_pay38 (k0_pay11 x0)) (k0_pay39 (k0_pay7 x0) (k0_pay8 x0) (k0_pay12 x1) (k0_pay13 x1))
    (k0_pay40 (k0_pay9 x0) (k0_pay10 x0) (k0_pay14 x1) (topRow x1)) k0_pay41

/-- rows `1536 … 1791`, over the columns from 1536, -/
def strip6 : FVec F S256x512 .bf16 :=
  k0_pay48 (areaRow x1) (k0_pay43 (k0_pay11 x0)) (k0_pay44 (k0_pay7 x0) (k0_pay8 x0) (k0_pay12 x1) (k0_pay13 x1))
    (k0_pay45 (k0_pay10 x0) (topRow x1)) (k0_pay46 (k0_pay9 x0)) (k0_pay47 (k0_pay14 x1))

/-- and rows `1792 … 2047`, over the columns from 1792. -/
def strip7 : FVec F S256x256 .bf16 :=
  k0_pay54 (k0_pay14 x1) (areaRow x1) (k0_pay49 (k0_pay9 x0)) (k0_pay50 (k0_pay11 x0))
    (k0_pay51 (k0_pay7 x0) (k0_pay8 x0) (k0_pay12 x1) (k0_pay13 x1)) (k0_pay52 (k0_pay10 x0)) (k0_pay53 (topRow x1))

/-- The writes into the scratch matrix, the last first. -/
def writesOf : List (View.Piece (Elt F) S2048x2048 .bf16) :=
  [⟨Rect.unit ![1792, 1792] S256x256.size inb_S2048x2048_S256x256_1792_1792, strip7 x0 x1⟩,
   ⟨Rect.unit ![1536, 1536] S256x512.size inb_S2048x2048_S256x512_1536_1536, strip6 x0 x1⟩,
   ⟨Rect.unit ![1280, 1280] S256x768.size inb_S2048x2048_S256x768_1280_1280, strip5 x0 x1⟩,
   ⟨Rect.unit ![1024, 1024] S256x1024.size inb_S2048x2048_S256x1024_1024_1024, strip4 x0 x1⟩,
   ⟨Rect.unit ![768, 768] S256x1280.size inb_S2048x2048_S256x1280_768_768, strip3 x0 x1⟩,
   ⟨Rect.unit ![512, 512] S256x1536.size inb_S2048x2048_S256x1536_512_512, strip2 x0 x1⟩,
   ⟨Rect.unit ![256, 256] S256x1792.size inb_S2048x2048_S256x1792_256_256, strip1 x0 x1⟩,
   ⟨Rect.unit ![0, 0] S256x2048.size inb_S2048x2048_S256x2048_0_0, strip0 x0 x1⟩,
   ⟨Rect.unit ![0, 0] S2048x2048.size inb_S2048x2048_S2048x2048_0_0, k0_pay21⟩]

/-- The suppression matrix: what those writes leave. -/
def suppr : Vec F S2048x2048 .bf16 := View.canon (writesOf x0 x1)

/-- The validity row, as zeros and ones. -/
def validRow : FVec F S1x2048 .f32 := k0_pay55 (k0_pay20 (k0_pay6 x1))

/-- The loop's first state: nothing kept, nothing suppressed, every valid candidate undecided. -/
def start : LoopState F := (k0_pay56, k0_pay56, k0_pay57 (k0_pay20 (k0_pay6 x1)))

/-- The loop of this point ends within 2048 turns. -/
def Halts : Prop := HaltsIn (validRow x1) (suppr x0 x1) 2048 (start x1)

/-- The kept row the loop leaves. -/
def keptRow : FVec F S1x2048 .f32 := (runFrom (validRow x1) (suppr x0 x1) 2048 (start x1)).1

/-- Where kept candidate goes to result row: the one-hot table. -/
def hot : IVec S512x2048 1 := k0_pay60 (keptRow x0 x1) k0_pay58 (k0_pay59 (keptRow x0 x1))

/-- The first result block: the kept candidates' last ten columns, in order, padded to sixteen. -/
def selBlock : FVec F S1x512x16 .f32 := k0_pay62 (k0_pay5 x0) (keptRow x0 x1) (hot x0 x1)

/-- The second result block: the mask column and the masked class maximum, padded to eight. -/
def smallBlock : FVec F S1x512x8 .f32 :=
  k0_pay1 (k0_pay63 (k0_pay5 x0) (keptRow x0 x1) (iota .tc S512x1 32 [0] iota_S512x1_d0_w32) (hot x0 x1))

end Strips

end Cert.Proof.Kern

end
-- ==== Proof.Boxes.lean ====
/-
  Boxes on the extended reals: the intersection over union of two boxes given by centre and size, in the order the
  kernel and the reference both compute it, and how the kernel's payloads read the boxes of a block.
-/
module

public import proofs.«01_k».proof.Proof.Block
public import Idealize.ShloMosaic.Lib.ValueIdx
public import Idealize.ShloMosaic.Lib.ValueLayout

@[expose] public section

noncomputable section

namespace Cert.Proof.Kern

open Cert.KernelIdeal Cert.KernelIdeal.Gen

open Idealize.ShloMosaic Idealize.ShloMosaic.ValueIdx

/-- One half, zero, one, the small number the quotient's denominator carries, and the overlap threshold, as the float
    words the programs write. -/
abbrev half : EReal := Ideal.ofBits .f32 0x3F000000#32
abbrev tiny : EReal := Ideal.ofBits .f32 0x358637BD#32
abbrev thr : EReal := Ideal.ofBits .f32 0x3F333333#32

/-- The lower and the upper edge of an interval given by centre and width. -/
def lo (c s : EReal) : EReal := c - s * half
def hi (c s : EReal) : EReal := c + s * half

/-- The part two intervals share: its length, or zero. -/
def shared (c s c' s' : EReal) : EReal := max (min (hi c s) (hi c' s') - max (lo c s) (lo c' s')) 0

/-- The area of a box. -/
def area (x y w h : EReal) : EReal := (hi x w - lo x w) * (hi y h - lo y h)

/-- Intersection over union of the boxes `(x, y, w, h)` and `(x', y', w', h')`. -/
def iou (x y w h x' y' w' h' : EReal) : EReal :=
  Ideal.div (shared x w x' w' * shared y h y' h')
    (area x y w h + area x' y' w' h' - shared x w x' w' * shared y h y' h' + tiny)

section Reads

variable (x0 : Vec Ideal S1x2048x18 .f32) (x1 : Vec Ideal S1x8x2048 .f32)

/-- Column `k` of candidate row `i`, and row `k` of the transposed block at candidate `j`. -/
def inRow (i : Fin 2048) (k : Fin 18) : EReal := x0 (ix3 (0 : Fin 1) i k)
def inCol (j : Fin 2048) (k : Fin 8) : EReal := x1 (ix3 (0 : Fin 1) k j)

theorem pay5_apply (i : Fin 2048) (k : Fin 18) : k0_pay5 x0 (ix2 i k) = inRow x0 i k :=
  shapeCast_1ab_ab_apply x0 shapeCasts_S1x2048x18_S2048x18 i k

theorem pay6_apply (k : Fin 8) (j : Fin 2048) : k0_pay6 x1 (ix2 k j) = inCol x1 j k :=
  shapeCast_1ab_ab_apply x1 shapeCasts_S1x8x2048_S8x2048 k j

theorem rowSlice (k : Fin 18) (h : S2048x18.Slices ![0, k.val] S2048x1) (i : Fin 2048) :
    extractStridedSlice S2048x1 ![0, k.val] (k0_pay5 x0) h (ix2 i (0 : Fin 1)) = inRow x0 i k :=
  (slice2_axis1_apply k.val (k0_pay5 x0) h i (0 : Fin 1) k rfl).trans (pay5_apply x0 i k)

theorem colSlice (k : Fin 8) (h : S8x2048.Slices ![k.val, 0] S1x2048) (j : Fin 2048) :
    extractStridedSlice S1x2048 ![k.val, 0] (k0_pay6 x1) h (ix2 (0 : Fin 1) j) = inCol x1 j k :=
  (slice2_axis0_apply k.val (k0_pay6 x1) h (0 : Fin 1) j k rfl).trans (pay6_apply x1 k j)

theorem pay7_apply (i : Fin 2048) : k0_pay7 x0 (ix2 i (0 : Fin 1)) = lo (inRow x0 i 0) (inRow x0 i 3) :=
  congrArg₂ (fun a b : EReal => a - b * half) (rowSlice x0 0 slices_S2048x18_o0_0_S2048x1 i) (rowSlice x0 3 slices_S2048x18_o0_3_S2048x1 i)
theorem pay8_apply (i : Fin 2048) : k0_pay8 x0 (ix2 i (0 : Fin 1)) = hi (inRow x0 i 0) (inRow x0 i 3) :=
  congrArg₂ (fun a b : EReal => a + b * half) (rowSlice x0 0 slices_S2048x18_o0_0_S2048x1 i) (rowSlice x0 3 slices_S2048x18_o0_3_S2048x1 i)
theorem pay9_apply (i : Fin 2048) : k0_pay9 x0 (ix2 i (0 : Fin 1)) = lo (inRow x0 i 1) (inRow x0 i 4) :=
  congrArg₂ (fun a b : EReal => a - b * half) (rowSlice x0 1 slices_S2048x18_o0_1_S2048x1 i) (rowSlice x0 4 slices_S2048x18_o0_4_S2048x1 i)
theorem pay10_apply (i : Fin 2048) : k0_pay10 x0 (ix2 i (0 : Fin 1)) = hi (inRow x0 i 1) (inRow x0 i 4) :=
  congrArg₂ (fun a b : EReal => a + b * half) (rowSlice x0 1 slices_S2048x18_o0_1_S2048x1 i) (rowSlice x0 4 slices_S2048x18_o0_4_S2048x1 i)
theorem pay11_apply (i : Fin 2048) : k0_pay11 x0 (ix2 i (0 : Fin 1))
    = area (inRow x0 i 0) (inRow x0 i 1) (inRow x0 i 3) (inRow x0 i 4) := by
  unfold k0_pay11 area
  rw [← pay7_apply, ← pay8_apply, ← pay9_apply, ← pay10_apply]; rfl

theorem pay12_apply (j : Fin 2048) : k0_pay12 x1 (ix2 (0 : Fin 1) j) = lo (inCol x1 j 0) (inCol x1 j 3) :=
  congrArg₂ (fun a b : EReal => a - b * half) (colSlice x1 0 slices_S8x2048_o0_0_S1x2048 j) (colSlice x1 3 slices_S8x2048_o3_0_S1x2048 j)
theorem pay13_apply (j : Fin 2048) : k0_pay13 x1 (ix2 (0 : Fin 1) j) = hi (inCol x1 j 0) (inCol x1 j 3) :=
  congrArg₂ (fun a b : EReal => a + b * half) (colSlice x1 0 slices_S8x2048_o0_0_S1x2048 j) (colSlice x1 3 slices_S8x2048_o3_0_S1x2048 j)
theorem pay14_apply (j : Fin 2048) : k0_pay14 x1 (ix2 (0 : Fin 1) j) = lo (inCol x1 j 1) (inCol x1 j 4) :=
  congrArg₂ (fun a b : EReal => a - b * half) (colSlice x1 1 slices_S8x2048_o1_0_S1x2048 j) (colSlice x1 4 slices_S8x2048_o4_0_S1x2048 j)
theorem topRow_apply (j : Fin 2048) : topRow x1 (ix2 (0 : Fin 1) j) = hi (inCol x1 j 1) (inCol x1 j 4) :=
  congrArg₂ (fun a b : EReal => a + b * half) (colSlice x1 1 slices_S8x2048_o1_0_S1x2048 j) (colSlice x1 4 slices_S8x2048_o4_0_S1x2048 j)
theorem areaRow_apply (j : Fin 2048) : areaRow x1 (ix2 (0 : Fin 1) j)
    = area (inCol x1 j 0) (inCol x1 j 1) (inCol x1 j 3) (inCol x1 j 4) := by
  unfold area
  rw [← pay12_apply, ← pay13_apply, ← pay14_apply, ← topRow_apply]; rfl

end Reads

/-- A column cut from row `o` on and spread over `n` columns reads, at `(r, c)`, the column at `o + r`. -/
theorem spreadCol {α : Type} {n : ℕ} (o : ℕ) (X : S2048x1.Idx → α) (h : S2048x1.Slices ![o, 0] S256x1)
    (hb : S256x1.Broadcasts ⟨2, ![256, n]⟩) (r : Fin 256) (c : Fin n) (i : Fin 2048) (hi : i.val = o + r.val) :
    broadcastTo ⟨2, ![256, n]⟩ (extractStridedSlice S256x1 ![o, 0] X h) hb (ix2 r c) = X (ix2 i (0 : Fin 1)) := by
  rw [broadcastTo_apply _ hb (ix2 r c) (ix2 r (0 : Fin 1)) fun ax => by
    match ax with
    | ⟨0, _⟩ => rfl
    | ⟨1, _⟩ => rfl]
  exact slice2_axis0_apply o X h r (0 : Fin 1) i hi

/-- A row cut from column `o` on and spread over 256 rows reads, at `(r, c)`, the row at `o + c`. -/
theorem spreadRow {α : Type} {n : ℕ} (o : ℕ) (X : S1x2048.Idx → α) (h : S1x2048.Slices ![0, o] ⟨2, ![1, n]⟩)
    (hb : (⟨2, ![1, n]⟩ : Shape).Broadcasts ⟨2, ![256, n]⟩) (r : Fin 256) (c : Fin n) (j : Fin 2048) (hj : j.val = o + c.val) :
    broadcastTo ⟨2, ![256, n]⟩ (extractStridedSlice ⟨2, ![1, n]⟩ ![0, o] X h) hb (ix2 r c) = X (ix2 (0 : Fin 1) j) :=
  (broadcastTo_1b_ab_apply _ hb r c).trans (slice2_axis1_apply o X h (0 : Fin 1) c j hj)

/-- The word comparison of two coordinates counted from the same offset. -/
theorem coord_gt (o a b : ℕ) (ha : o + a < 2048) (hb : o + b < 2048) :
    IntOp.cmpi .sgt (BitVec.ofNat 32 (0 + b) + BitVec.ofNat 32 o) (BitVec.ofNat 32 (0 + a) + BitVec.ofNat 32 o)
      = BitVec.ofBool (decide (o + a < o + b)) := by
  have h : ∀ n : ℕ, o + n < 2048 → (BitVec.ofNat 32 (0 + n) + BitVec.ofNat 32 o).toInt = o + n := fun n hn => by
    rw [BitVec.toInt_eq_toNat_of_lt] <;> simp [BitVec.toNat_add, BitVec.toNat_ofNat] <;> omega
  show BitVec.ofBool (BitVec.slt _ _) = _
  rw [BitVec.slt, h a ha, h b hb]
  norm_cast

end Cert.Proof.Kern

end
-- ==== Proof.Suppr.lean ====
/-
  The suppression matrix on the extended reals: entry `(i, j)` is one when `i` comes before `j` and the two candidates'
  boxes overlap by more than the threshold, and zero otherwise. Each of the eight strips is one vector expression
  (`stripWith`) of ten spread vectors, so it is read once; what lies in no strip is on or below the diagonal.
-/
module

public import proofs.«01_k».proof.Proof.Boxes
public import Idealize.ShloMosaic.Lib.IdealHost
public import Idealize.ShloMosaic.Lib.Pipeline.Value
public import Idealize.ShloMosaic.Lib.Pipeline.ValueKit.Geometry

@[expose] public section

noncomputable section

namespace Cert.Proof.Kern

open Cert.KernelIdeal Cert.KernelIdeal.Gen

open Idealize.ShloMosaic Idealize.ShloMosaic.ValueIdx

/-- One strip, from the upper and lower edges and areas of its rows and columns, all spread over the strip. -/
def stripWith {n : ℕ} (o : ℕ) (h0 : (⟨2, ![256, n]⟩ : Shape).Iotas .tc 32 [0]) (h1 : (⟨2, ![256, n]⟩ : Shape).Iotas .tc 32 [1])
    (xh xh' xl xl' yh yh' yl yl' ar ar' : FVec Ideal ⟨2, ![256, n]⟩ .f32) : FVec Ideal ⟨2, ![256, n]⟩ .f32 :=
  let z : FVec Ideal ⟨2, ![256, n]⟩ .f32 := broadcast _ (Scalar.ofBits .f32 0x00000000#32)
  let inter := mulf (maximumf (subf (minimumf xh xh') (maximumf xl xl')) z) (maximumf (subf (minimumf yh yh') (maximumf yl yl')) z)
  let q := divf inter (addf (subf (addf ar ar') inter) (broadcast _ (Scalar.ofBits .f32 0x358637BD#32)))
  select (andi (cmpf .ogt q (broadcast _ (Scalar.ofBits .f32 0x3F333333#32)))
      (cmpi .sgt (addi (iota .tc _ 32 [1] h1) (broadcast _ (BitVec.ofNat 32 o))) (addi (iota .tc _ 32 [0] h0) (broadcast _ (BitVec.ofNat 32 o)))))
    (broadcast _ (Scalar.ofBits .f32 0x3F800000#32)) z

section Marks

variable (x0 : Vec Ideal S1x2048x18 .f32) (x1 : Vec Ideal S1x8x2048 .f32)

/-- Candidate `i` suppresses candidate `j` if it is kept: it comes first and the two boxes overlap enough. -/
def Sup (i j : Fin 2048) : Prop :=
  i < j ∧ thr < iou (inRow x0 i 0) (inRow x0 i 1) (inRow x0 i 3) (inRow x0 i 4)
    (inCol x1 j 0) (inCol x1 j 1) (inCol x1 j 3) (inCol x1 j 4)

open Classical in
/-- The matrix entry. -/
def mark (i j : Fin 2048) : EReal := if Sup x0 x1 i j then 1 else 0

/-- The same choice by equivalent tests. -/
theorem ite_eq_ite_of_iff {P Q : Prop} {dP : Decidable P} {dQ : Decidable Q} {α : Type} {a b : α} (h : P ↔ Q) :
    @ite α P dP a b = @ite α Q dQ a b := by
  by_cases hq : Q
  · rw [if_pos hq, if_pos (h.2 hq)]
  · rw [if_neg hq, if_neg (fun hp => hq (h.1 hp))]

open Classical in
/-- A one or a zero chosen by the conjunction of two tests. -/
theorem select_and (P Q : Prop) [Decidable P] [Decidable Q] :
    Scalar.select (IntOp.andi (BitVec.ofBool (decide P)) (BitVec.ofBool (decide Q))) (1 : EReal) 0 = if Q ∧ P then 1 else 0 := by
  by_cases hP : P <;> by_cases hQ : Q <;> simp [Scalar.select, IntOp.andi, hP, hQ]

theorem stripWith_apply {n : ℕ} (o : ℕ) {h0 : (⟨2, ![256, n]⟩ : Shape).Iotas .tc 32 [0]} {h1 : (⟨2, ![256, n]⟩ : Shape).Iotas .tc 32 [1]}
    (r : Fin 256) (c : Fin n) (i j : Fin 2048) (hi' : i.val = o + r.val) (hj' : j.val = o + c.val)
    {xh xh' xl xl' yh yh' yl yl' ar ar' : FVec Ideal ⟨2, ![256, n]⟩ .f32}
    (e1 : xh (ix2 r c) = hi (inRow x0 i 0) (inRow x0 i 3)) (e1' : xh' (ix2 r c) = hi (inCol x1 j 0) (inCol x1 j 3))
    (e2 : xl (ix2 r c) = lo (inRow x0 i 0) (inRow x0 i 3)) (e2' : xl' (ix2 r c) = lo (inCol x1 j 0) (inCol x1 j 3))
    (e3 : yh (ix2 r c) = hi (inRow x0 i 1) (inRow x0 i 4)) (e3' : yh' (ix2 r c) = hi (inCol x1 j 1) (inCol x1 j 4))
    (e4 : yl (ix2 r c) = lo (inRow x0 i 1) (inRow x0 i 4)) (e4' : yl' (ix2 r c) = lo (inCol x1 j 1) (inCol x1 j 4))
    (e5 : ar (ix2 r c) = area (inRow x0 i 0) (inRow x0 i 1) (inRow x0 i 3) (inRow x0 i 4))
    (e5' : ar' (ix2 r c) = area (inCol x1 j 0) (inCol x1 j 1) (inCol x1 j 3) (inCol x1 j 4)) :
    stripWith o h0 h1 xh xh' xl xl' yh yh' yl yl' ar ar' (ix2 r c) = mark x0 x1 i j := by
  have hc := coord_gt o r.val c.val (by omega) (by omega)
  have hlt : (i < j) ↔ o + r.val < o + c.val := by rw [Fin.lt_def, hi', hj']
  show Scalar.select (IntOp.andi
      (Ideal.cmp .ogt (Ideal.div
        (max (min (xh (ix2 r c)) (xh' (ix2 r c)) - max (xl (ix2 r c)) (xl' (ix2 r c))) (Ideal.ofBits .f32 0x00000000#32)
          * max (min (yh (ix2 r c)) (yh' (ix2 r c)) - max (yl (ix2 r c)) (yl' (ix2 r c))) (Ideal.ofBits .f32 0x00000000#32))
        (ar (ix2 r c) + ar' (ix2 r c)
          - max (min (xh (ix2 r c)) (xh' (ix2 r c)) - max (xl (ix2 r c)) (xl' (ix2 r c))) (Ideal.ofBits .f32 0x00000000#32)
            * max (min (yh (ix2 r c)) (yh' (ix2 r c)) - max (yl (ix2 r c)) (yl' (ix2 r c))) (Ideal.ofBits .f32 0x00000000#32)
          + tiny)) thr)
      (IntOp.cmpi .sgt (BitVec.ofNat 32 (0 * n + c.val) + BitVec.ofNat 32 o) (BitVec.ofNat 32 (0 * 256 + r.val) + BitVec.ofNat 32 o)))
      (Ideal.ofBits .f32 0x3F800000#32) (Ideal.ofBits .f32 0x00000000#32) = _
  rw [e1, e1', e2, e2', e3, e3', e4, e4', e5, e5', Nat.zero_mul, Nat.zero_mul, hc, Ideal.ofBits_zero_f32, Ideal.ofBits_one_f32]
  unfold mark Sup iou shared
  refine (select_and _ _).trans ?_
  exact ite_eq_ite_of_iff (and_congr_left fun _ => hlt.symm)

theorem strip0_eq : strip0 x0 x1 = stripWith 0 iota_S256x2048_d0_w32 iota_S256x2048_d1_w32
      (broadcastTo S256x2048 (extractStridedSlice S256x1 ![0, 0] (k0_pay8 x0) slices_S2048x1_o0_0_S256x1) broadcasts_S256x1_S256x2048)
      (broadcastTo S256x2048 (k0_pay13 x1) broadcasts_S1x2048_S256x2048)
      (broadcastTo S256x2048 (extractStridedSlice S256x1 ![0, 0] (k0_pay7 x0) slices_S2048x1_o0_0_S256x1) broadcasts_S256x1_S256x2048)
      (broadcastTo S256x2048 (k0_pay12 x1) broadcasts_S1x2048_S256x2048)
      (broadcastTo S256x2048 (extractStridedSlice S256x1 ![0, 0] (k0_pay10 x0) slices_S2048x1_o0_0_S256x1) broadcasts_S256x1_S256x2048)
      (broadcastTo S256x2048 (topRow x1) broadcasts_S1x2048_S256x2048)
      (broadcastTo S256x2048 (extractStridedSlice S256x1 ![0, 0] (k0_pay9 x0) slices_S2048x1_o0_0_S256x1) broadcasts_S256x1_S256x2048)
      (broadcastTo S256x2048 (k0_pay14 x1) broadcasts_S1x2048_S256x2048)
      (broadcastTo S256x2048 (extractStridedSlice S256x1 ![0, 0] (k0_pay11 x0) slices_S2048x1_o0_0_S256x1) broadcasts_S256x1_S256x2048)
      (broadcastTo S256x2048 (areaRow x1) broadcasts_S1x2048_S256x2048) := by
  unfold strip0 k0_pay25 k0_pay22 k0_pay23 k0_pay24
  exact shapeCast_self _ _

theorem strip0_apply (r : Fin 256) (c : Fin 2048) (i j : Fin 2048) (hi : i.val = 0 + r.val) (hj : j.val = 0 + c.val) :
    strip0 x0 x1 (ix2 r c) = mark x0 x1 i j := by
  rw [strip0_eq]
  have hjc : j = c := Fin.ext (by omega)
  exact stripWith_apply x0 x1 0 r c i j hi hj
    ((spreadCol 0 (k0_pay8 x0) slices_S2048x1_o0_0_S256x1 broadcasts_S256x1_S256x2048 r c i hi).trans (pay8_apply x0 i))
    ((broadcastTo_1b_ab_apply (k0_pay13 x1) broadcasts_S1x2048_S256x2048 r c).trans (hjc ▸ pay13_apply x1 j))
    ((spreadCol 0 (k0_pay7 x0) slices_S2048x1_o0_0_S256x1 broadcasts_S256x1_S256x2048 r c i hi).trans (pay7_apply x0 i))
    ((broadcastTo_1b_ab_apply (k0_pay12 x1) broadcasts_S1x2048_S256x2048 r c).trans (hjc ▸ pay12_apply x1 j))
    ((spreadCol 0 (k0_pay10 x0) slices_S2048x1_o0_0_S256x1 broadcasts_S256x1_S256x2048 r c i hi).trans (pay10_apply x0 i))
    ((broadcastTo_1b_ab_apply (topRow x1) broadcasts_S1x2048_S256x2048 r c).trans (hjc ▸ topRow_apply x1 j))
    ((spreadCol 0 (k0_pay9 x0) slices_S2048x1_o0_0_S256x1 broadcasts_S256x1_S256x2048 r c i hi).trans (pay9_apply x0 i))
    ((broadcastTo_1b_ab_apply (k0_pay14 x1) broadcasts_S1x2048_S256x2048 r c).trans (hjc ▸ pay14_apply x1 j))
    ((spreadCol 0 (k0_pay11 x0) slices_S2048x1_o0_0_S256x1 broadcasts_S256x1_S256x2048 r c i hi).trans (pay11_apply x0 i))
    ((broadcastTo_1b_ab_apply (areaRow x1) broadcasts_S1x2048_S256x2048 r c).trans (hjc ▸ areaRow_apply x1 j))

theorem strip1_eq : strip1 x0 x1 = stripWith 256 iota_S256x1792_d0_w32 iota_S256x1792_d1_w32
      (broadcastTo S256x1792 (extractStridedSlice S256x1 ![256, 0] (k0_pay8 x0) slices_S2048x1_o256_0_S256x1) broadcasts_S256x1_S256x1792)
      (broadcastTo S256x1792 (extractStridedSlice S1x1792 ![0, 256] (k0_pay13 x1) slices_S1x2048_o0_256_S1x1792) broadcasts_S1x1792_S256x1792)
      (broadcastTo S256x1792 (extractStridedSlice S256x1 ![256, 0] (k0_pay7 x0) slices_S2048x1_o256_0_S256x1) broadcasts_S256x1_S256x1792)
      (broadcastTo S256x1792 (extractStridedSlice S1x1792 ![0, 256] (k0_pay12 x1) slices_S1x2048_o0_256_S1x1792) broadcasts_S1x1792_S256x1792)
      (broadcastTo S256x1792 (extractStridedSlice S256x1 ![256, 0] (k0_pay10 x0) slices_S2048x1_o256_0_S256x1) broadcasts_S256x1_S256x1792)
      (broadcastTo S256x1792 (extractStridedSlice S1x1792 ![0, 256] (topRow x1) slices_S1x2048_o0_256_S1x1792) broadcasts_S1x1792_S256x1792)
      (broadcastTo S256x1792 (extractStridedSlice S256x1 ![256, 0] (k0_pay9 x0) slices_S2048x1_o256_0_S256x1) broadcasts_S256x1_S256x1792)
      (broadcastTo S256x1792 (extractStridedSlice S1x1792 ![0, 256] (k0_pay14 x1) slices_S1x2048_o0_256_S1x1792) broadcasts_S1x1792_S256x1792)
      (broadcastTo S256x1792 (extractStridedSlice S256x1 ![256, 0] (k0_pay11 x0) slices_S2048x1_o256_0_S256x1) broadcasts_S256x1_S256x1792)
      (broadcastTo S256x1792 (extractStridedSlice S1x1792 ![0, 256] (areaRow x1) slices_S1x2048_o0_256_S1x1792) broadcasts_S1x1792_S256x1792) := by
  unfold strip1 k0_pay28 k0_pay26 k0_pay27
  exact shapeCast_self _ _

theorem strip1_apply (r : Fin 256) (c : Fin 1792) (i j : Fin 2048) (hi : i.val = 256 + r.val) (hj : j.val = 256 + c.val) :
    strip1 x0 x1 (ix2 r c) = mark x0 x1 i j := by
  rw [strip1_eq]
  exact stripWith_apply x0 x1 256 r c i j hi hj
    ((spreadCol 256 (k0_pay8 x0) slices_S2048x1_o256_0_S256x1 broadcasts_S256x1_S256x1792 r c i hi).trans (pay8_apply x0 i))
    ((spreadRow 256 (k0_pay13 x1) slices_S1x2048_o0_256_S1x1792 broadcasts_S1x1792_S256x1792 r c j hj).trans (pay13_apply x1 j))
    ((spreadCol 256 (k0_pay7 x0) slices_S2048x1_o256_0_S256x1 broadcasts_S256x1_S256x1792 r c i hi).trans (pay7_apply x0 i))
    ((spreadRow 256 (k0_pay12 x1) slices_S1x2048_o0_256_S1x1792 broadcasts_S1x1792_S256x1792 r c j hj).trans (pay12_apply x1 j))
    ((spreadCol 256 (k0_pay10 x0) slices_S2048x1_o256_0_S256x1 broadcasts_S256x1_S256x1792 r c i hi).trans (pay10_apply x0 i))
    ((spreadRow 256 (topRow x1) slices_S1x2048_o0_256_S1x1792 broadcasts_S1x1792_S256x1792 r c j hj).trans (topRow_apply x1 j))
    ((spreadCol 256 (k0_pay9 x0) slices_S2048x1_o256_0_S256x1 broadcasts_S256x1_S256x1792 r c i hi).trans (pay9_apply x0 i))
    ((spreadRow 256 (k0_pay14 x1) slices_S1x2048_o0_256_S1x1792 broadcasts_S1x1792_S256x1792 r c j hj).trans (pay14_apply x1 j))
    ((spreadCol 256 (k0_pay11 x0) slices_S2048x1_o256_0_S256x1 broadcasts_S256x1_S256x1792 r c i hi).trans (pay11_apply x0 i))
    ((spreadRow 256 (areaRow x1) slices_S1x2048_o0_256_S1x1792 broadcasts_S1x1792_S256x1792 r c j hj).trans (areaRow_apply x1 j))

theorem strip2_eq : strip2 x0 x1 = stripWith 512 iota_S256x1536_d0_w32 iota_S256x1536_d1_w32
      (broadcastTo S256x1536 (extractStridedSlice S256x1 ![512, 0] (k0_pay8 x0) slices_S2048x1_o512_0_S256x1) broadcasts_S256x1_S256x1536)
      (broadcastTo S256x1536 (extractStridedSlice S1x1536 ![0, 512] (k0_pay13 x1) slices_S1x2048_o0_512_S1x1536) broadcasts_S1x1536_S256x1536)
      (broadcastTo S256x1536 (extractStridedSlice S256x1 ![512, 0] (k0_pay7 x0) slices_S2048x1_o512_0_S256x1) broadcasts_S256x1_S256x1536)
      (broadcastTo S256x1536 (extractStridedSlice S1x1536 ![0, 512] (k0_pay12 x1) slices_S1x2048_o0_512_S1x1536) broadcasts_S1x1536_S256x1536)
      (broadcastTo S256x1536 (extractStridedSlice S256x1 ![512, 0] (k0_pay10 x0) slices_S2048x1_o512_0_S256x1) broadcasts_S256x1_S256x1536)
      (broadcastTo S256x1536 (extractStridedSlice S1x1536 ![0, 512] (topRow x1) slices_S1x2048_o0_512_S1x1536) broadcasts_S1x1536_S256x1536)
      (broadcastTo S256x1536 (extractStridedSlice S256x1 ![512, 0] (k0_pay9 x0) slices_S2048x1_o512_0_S256x1) broadcasts_S256x1_S256x1536)
      (broadcastTo S256x1536 (extractStridedSlice S1x1536 ![0, 512] (k0_pay14 x1) slices_S1x2048_o0_512_S1x1536) broadcasts_S1x1536_S256x1536)
      (broadcastTo S256x1536 (extractStridedSlice S256x1 ![512, 0] (k0_pay11 x0) slices_S2048x1_o512_0_S256x1) broadcasts_S256x1_S256x1536)
      (broadcastTo S256x1536 (extractStridedSlice S1x1536 ![0, 512] (areaRow x1) slices_S1x2048_o0_512_S1x1536) broadcasts_S1x1536_S256x1536) := by
  unfold strip2 k0_pay30 k0_pay29
  exact shapeCast_self _ _

theorem strip2_apply (r : Fin 256) (c : Fin 1536) (i j : Fin 2048) (hi : i.val = 512 + r.val) (hj : j.val = 512 + c.val) :
    strip2 x0 x1 (ix2 r c) = mark x0 x1 i j := by
  rw [strip2_eq]
  exact stripWith_apply x0 x1 512 r c i j hi hj
    ((spreadCol 512 (k0_pay8 x0) slices_S2048x1_o512_0_S256x1 broadcasts_S256x1_S256x1536 r c i hi).trans (pay8_apply x0 i))
    ((spreadRow 512 (k0_pay13 x1) slices_S1x2048_o0_512_S1x1536 broadcasts_S1x1536_S256x1536 r c j hj).trans (pay13_apply x1 j))
    ((spreadCol 512 (k0_pay7 x0) slices_S2048x1_o512_0_S256x1 broadcasts_S256x1_S256x1536 r c i hi).trans (pay7_apply x0 i))
    ((spreadRow 512 (k0_pay12 x1) slices_S1x2048_o0_512_S1x1536 broadcasts_S1x1536_S256x1536 r c j hj).trans (pay12_apply x1 j))
    ((spreadCol 512 (k0_pay10 x0) slices_S2048x1_o512_0_S256x1 broadcasts_S256x1_S256x1536 r c i hi).trans (pay10_apply x0 i))
    ((spreadRow 512 (topRow x1) slices_S1x2048_o0_512_S1x1536 broadcasts_S1x1536_S256x1536 r c j hj).trans (topRow_apply x1 j))
    ((spreadCol 512 (k0_pay9 x0) slices_S2048x1_o512_0_S256x1 broadcasts_S256x1_S256x1536 r c i hi).trans (pay9_apply x0 i))
    ((spreadRow 512 (k0_pay14 x1) slices_S1x2048_o0_512_S1x1536 broadcasts_S1x1536_S256x1536 r c j hj).trans (pay14_apply x1 j))
    ((spreadCol 512 (k0_pay11 x0) slices_S2048x1_o512_0_S256x1 broadcasts_S256x1_S256x1536 r c i hi).trans (pay11_apply x0 i))
    ((spreadRow 512 (areaRow x1) slices_S1x2048_o0_512_S1x1536 broadcasts_S1x1536_S256x1536 r c j hj).trans (areaRow_apply x1 j))

theorem strip3_eq : strip3 x0 x1 = stripWith 768 iota_S256x1280_d0_w32 iota_S256x1280_d1_w32
      (broadcastTo S256x1280 (extractStridedSlice S256x1 ![768, 0] (k0_pay8 x0) slices_S2048x1_o768_0_S256x1) broadcasts_S256x1_S256x1280)
      (broadcastTo S256x1280 (extractStridedSlice S1x1280 ![0, 768] (k0_pay13 x1) slices_S1x2048_o0_768_S1x1280) broadcasts_S1x1280_S256x1280)
      (broadcastTo S256x1280 (extractStridedSlice S256x1 ![768, 0] (k0_pay7 x0) slices_S2048x1_o768_0_S256x1) broadcasts_S256x1_S256x1280)
      (broadcastTo S256x1280 (extractStridedSlice S1x1280 ![0, 768] (k0_pay12 x1) slices_S1x2048_o0_768_S1x1280) broadcasts_S1x1280_S256x1280)
      (broadcastTo S256x1280 (extractStridedSlice S256x1 ![768, 0] (k0_pay10 x0) slices_S2048x1_o768_0_S256x1) broadcasts_S256x1_S256x1280)
      (broadcastTo S256x1280 (extractStridedSlice S1x1280 ![0, 768] (topRow x1) slices_S1x2048_o0_768_S1x1280) broadcasts_S1x1280_S256x1280)
      (broadcastTo S256x1280 (extractStridedSlice S256x1 ![768, 0] (k0_pay9 x0) slices_S2048x1_o768_0_S256x1) broadcasts_S256x1_S256x1280)
      (broadcastTo S256x1280 (extractStridedSlice S1x1280 ![0, 768] (k0_pay14 x1) slices_S1x2048_o0_768_S1x1280) broadcasts_S1x1280_S256x1280)
      (broadcastTo S256x1280 (extractStridedSlice S256x1 ![768, 0] (k0_pay11 x0) slices_S2048x1_o768_0_S256x1) broadcasts_S256x1_S256x1280)
      (broadcastTo S256x1280 (extractStridedSlice S1x1280 ![0, 768] (areaRow x1) slices_S1x2048_o0_768_S1x1280) broadcasts_S1x1280_S256x1280) := by
  unfold strip3 k0_pay33 k0_pay31 k0_pay32
  exact shapeCast_self _ _

theorem strip3_apply (r : Fin 256) (c : Fin 1280) (i j : Fin 2048) (hi : i.val = 768 + r.val) (hj : j.val = 768 + c.val) :
    strip3 x0 x1 (ix2 r c) = mark x0 x1 i j := by
  rw [strip3_eq]
  exact stripWith_apply x0 x1 768 r c i j hi hj
    ((spreadCol 768 (k0_pay8 x0) slices_S2048x1_o768_0_S256x1 broadcasts_S256x1_S256x1280 r c i hi).trans (pay8_apply x0 i))
    ((spreadRow 768 (k0_pay13 x1) slices_S1x2048_o0_768_S1x1280 broadcasts_S1x1280_S256x1280 r c j hj).trans (pay13_apply x1 j))
    ((spreadCol 768 (k0_pay7 x0) slices_S2048x1_o768_0_S256x1 broadcasts_S256x1_S256x1280 r c i hi).trans (pay7_apply x0 i))
    ((spreadRow 768 (k0_pay12 x1) slices_S1x2048_o0_768_S1x1280 broadcasts_S1x1280_S256x1280 r c j hj).trans (pay12_apply x1 j))
    ((spreadCol 768 (k0_pay10 x0) slices_S2048x1_o768_0_S256x1 broadcasts_S256x1_S256x1280 r c i hi).trans (pay10_apply x0 i))
    ((spreadRow 768 (topRow x1) slices_S1x2048_o0_768_S1x1280 broadcasts_S1x1280_S256x1280 r c j hj).trans (topRow_apply x1 j))
    ((spreadCol 768 (k0_pay9 x0) slices_S2048x1_o768_0_S256x1 broadcasts_S256x1_S256x1280 r c i hi).trans (pay9_apply x0 i))
    ((spreadRow 768 (k0_pay14 x1) slices_S1x2048_o0_768_S1x1280 broadcasts_S1x1280_S256x1280 r c j hj).trans (pay14_apply x1 j))
    ((spreadCol 768 (k0_pay11 x0) slices_S2048x1_o768_0_S256x1 broadcasts_S256x1_S256x1280 r c i hi).trans (pay11_apply x0 i))
    ((spreadRow 768 (areaRow x1) slices_S1x2048_o0_768_S1x1280 broadcasts_S1x1280_S256x1280 r c j hj).trans (areaRow_apply x1 j))

theorem strip4_eq : strip4 x0 x1 = stripWith 1024 iota_S256x1024_d0_w32 iota_S256x1024_d1_w32
      (broadcastTo S256x1024 (extractStridedSlice S256x1 ![1024, 0] (k0_pay8 x0) slices_S2048x1_o1024_0_S256x1) broadcasts_S256x1_S256x1024)
      (broadcastTo S256x1024 (extractStridedSlice S1x1024 ![0, 1024] (k0_pay13 x1) slices_S1x2048_o0_1024_S1x1024) broadcasts_S1x1024_S256x1024)
      (broadcastTo S256x1024 (extractStridedSlice S256x1 ![1024, 0] (k0_pay7 x0) slices_S2048x1_o1024_0_S256x1) broadcasts_S256x1_S256x1024)
      (broadcastTo S256x1024 (extractStridedSlice S1x1024 ![0, 1024] (k0_pay12 x1) slices_S1x2048_o0_1024_S1x1024) broadcasts_S1x1024_S256x1024)
      (broadcastTo S256x1024 (extractStridedSlice S256x1 ![1024, 0] (k0_pay10 x0) slices_S2048x1_o1024_0_S256x1) broadcasts_S256x1_S256x1024)
      (broadcastTo S256x1024 (extractStridedSlice S1x1024 ![0, 1024] (topRow x1) slices_S1x2048_o0_1024_S1x1024) broadcasts_S1x1024_S256x1024)
      (broadcastTo S256x1024 (extractStridedSlice S256x1 ![1024, 0] (k0_pay9 x0) slices_S2048x1_o1024_0_S256x1) broadcasts_S256x1_S256x1024)
      (broadcastTo S256x1024 (extractStridedSlice S1x1024 ![0, 1024] (k0_pay14 x1) slices_S1x2048_o0_1024_S1x1024) broadcasts_S1x1024_S256x1024)
      (broadcastTo S256x1024 (extractStridedSlice S256x1 ![1024, 0] (k0_pay11 x0) slices_S2048x1_o1024_0_S256x1) broadcasts_S256x1_S256x1024)
      (broadcastTo S256x1024 (extractStridedSlice S1x1024 ![0, 1024] (areaRow x1) slices_S1x2048_o0_1024_S1x1024) broadcasts_S1x1024_S256x1024) := by
  unfold strip4 k0_pay37 k0_pay34 k0_pay35 k0_pay36
  exact shapeCast_self _ _

theorem strip4_apply (r : Fin 256) (c : Fin 1024) (i j : Fin 2048) (hi : i.val = 1024 + r.val) (hj : j.val = 1024 + c.val) :
    strip4 x0 x1 (ix2 r c) = mark x0 x1 i j := by
  rw [strip4_eq]
  exact stripWith_apply x0 x1 1024 r c i j hi hj
    ((spreadCol 1024 (k0_pay8 x0) slices_S2048x1_o1024_0_S256x1 broadcasts_S256x1_S256x1024 r c i hi).trans (pay8_apply x0 i))
    ((spreadRow 1024 (k0_pay13 x1) slices_S1x2048_o0_1024_S1x1024 broadcasts_S1x1024_S256x1024 r c j hj).trans (pay13_apply x1 j))
    ((spreadCol 1024 (k0_pay7 x0) slices_S2048x1_o1024_0_S256x1 broadcasts_S256x1_S256x1024 r c i hi).trans (pay7_apply x0 i))
    ((spreadRow 1024 (k0_pay12 x1) slices_S1x2048_o0_1024_S1x1024 broadcasts_S1x1024_S256x1024 r c j hj).trans (pay12_apply x1 j))
    ((spreadCol 1024 (k0_pay10 x0) slices_S2048x1_o1024_0_S256x1 broadcasts_S256x1_S256x1024 r c i hi).trans (pay10_apply x0 i))
    ((spreadRow 1024 (topRow x1) slices_S1x2048_o0_1024_S1x1024 broadcasts_S1x1024_S256x1024 r c j hj).trans (topRow_apply x1 j))
    ((spreadCol 1024 (k0_pay9 x0) slices_S2048x1_o1024_0_S256x1 broadcasts_S256x1_S256x1024 r c i hi).trans (pay9_apply x0 i))
    ((spreadRow 1024 (k0_pay14 x1) slices_S1x2048_o0_1024_S1x1024 broadcasts_S1x1024_S256x1024 r c j hj).trans (pay14_apply x1 j))
    ((spreadCol 1024 (k0_pay11 x0) slices_S2048x1_o1024_0_S256x1 broadcasts_S256x1_S256x1024 r c i hi).trans (pay11_apply x0 i))
    ((spreadRow 1024 (areaRow x1) slices_S1x2048_o0_1024_S1x1024 broadcasts_S1x1024_S256x1024 r c j hj).trans (areaRow_apply x1 j))

theorem strip5_eq : strip5 x0 x1 = stripWith 1280 iota_S256x768_d0_w32 iota_S256x768_d1_w32
      (broadcastTo S256x768 (extractStridedSlice S256x1 ![1280, 0] (k0_pay8 x0) slices_S2048x1_o1280_0_S256x1) broadcasts_S256x1_S256x768)
      (broadcastTo S256x768 (extractStridedSlice S1x768 ![0, 1280] (k0_pay13 x1) slices_S1x2048_o0_1280_S1x768) broadcasts_S1x768_S256x768)
      (broadcastTo S256x768 (extractStridedSlice S256x1 ![1280, 0] (k0_pay7 x0) slices_S2048x1_o1280_0_S256x1) broadcasts_S256x1_S256x768)
      (broadcastTo S256x768 (extractStridedSlice S1x768 ![0, 1280] (k0_pay12 x1) slices_S1x2048_o0_1280_S1x768) broadcasts_S1x768_S256x768)
      (broadcastTo S256x768 (extractStridedSlice S256x1 ![1280, 0] (k0_pay10 x0) slices_S2048x1_o1280_0_S256x1) broadcasts_S256x1_S256x768)
      (broadcastTo S256x768 (extractStridedSlice S1x768 ![0, 1280] (topRow x1) slices_S1x2048_o0_1280_S1x768) broadcasts_S1x768_S256x768)
      (broadcastTo S256x768 (extractStridedSlice S256x1 ![1280, 0] (k0_pay9 x0) slices_S2048x1_o1280_0_S256x1) broadcasts_S256x1_S256x768)
      (broadcastTo S256x768 (extractStridedSlice S1x768 ![0, 1280] (k0_pay14 x1) slices_S1x2048_o0_1280_S1x768) broadcasts_S1x768_S256x768)
      (broadcastTo S256x768 (extractStridedSlice S256x1 ![1280, 0] (k0_pay11 x0) slices_S2048x1_o1280_0_S256x1) broadcasts_S256x1_S256x768)
      (broadcastTo S256x768 (extractStridedSlice S1x768 ![0, 1280] (areaRow x1) slices_S1x2048_o0_1280_S1x768) broadcasts_S1x768_S256x768) := by
  unfold strip5 k0_pay42 k0_pay38 k0_pay39 k0_pay40 k0_pay41
  exact shapeCast_self _ _

theorem strip5_apply (r : Fin 256) (c : Fin 768) (i j : Fin 2048) (hi : i.val = 1280 + r.val) (hj : j.val = 1280 + c.val) :
    strip5 x0 x1 (ix2 r c) = mark x0 x1 i j := by
  rw [strip5_eq]
  exact stripWith_apply x0 x1 1280 r c i j hi hj
    ((spreadCol 1280 (k0_pay8 x0) slices_S2048x1_o1280_0_S256x1 broadcasts_S256x1_S256x768 r c i hi).trans (pay8_apply x0 i))
    ((spreadRow 1280 (k0_pay13 x1) slices_S1x2048_o0_1280_S1x768 broadcasts_S1x768_S256x768 r c j hj).trans (pay13_apply x1 j))
    ((spreadCol 1280 (k0_pay7 x0) slices_S2048x1_o1280_0_S256x1 broadcasts_S256x1_S256x768 r c i hi).trans (pay7_apply x0 i))
    ((spreadRow 1280 (k0_pay12 x1) slices_S1x2048_o0_1280_S1x768 broadcasts_S1x768_S256x768 r c j hj).trans (pay12_apply x1 j))
    ((spreadCol 1280 (k0_pay10 x0) slices_S2048x1_o1280_0_S256x1 broadcasts_S256x1_S256x768 r c i hi).trans (pay10_apply x0 i))
    ((spreadRow 1280 (topRow x1) slices_S1x2048_o0_1280_S1x768 broadcasts_S1x768_S256x768 r c j hj).trans (topRow_apply x1 j))
    ((spreadCol 1280 (k0_pay9 x0) slices_S2048x1_o1280_0_S256x1 broadcasts_S256x1_S256x768 r c i hi).trans (pay9_apply x0 i))
    ((spreadRow 1280 (k0_pay14 x1) slices_S1x2048_o0_1280_S1x768 broadcasts_S1x768_S256x768 r c j hj).trans (pay14_apply x1 j))
    ((spreadCol 1280 (k0_pay11 x0) slices_S2048x1_o1280_0_S256x1 broadcasts_S256x1_S256x768 r c i hi).trans (pay11_apply x0 i))
    ((spreadRow 1280 (areaRow x1) slices_S1x2048_o0_1280_S1x768 broadcasts_S1x768_S256x768 r c j hj).trans (areaRow_apply x1 j))

theorem strip6_eq : strip6 x0 x1 = stripWith 1536 iota_S256x512_d0_w32 iota_S256x512_d1_w32
      (broadcastTo S256x512 (extractStridedSlice S256x1 ![1536, 0] (k0_pay8 x0) slices_S2048x1_o1536_0_S256x1) broadcasts_S256x1_S256x512)
      (broadcastTo S256x512 (extractStridedSlice S1x512 ![0, 1536] (k0_pay13 x1) slices_S1x2048_o0_1536_S1x512) broadcasts_S1x512_S256x512)
      (broadcastTo S256x512 (extractStridedSlice S256x1 ![1536, 0] (k0_pay7 x0) slices_S2048x1_o1536_0_S256x1) broadcasts_S256x1_S256x512)
      (broadcastTo S256x512 (extractStridedSlice S1x512 ![0, 1536] (k0_pay12 x1) slices_S1x2048_o0_1536_S1x512) broadcasts_S1x512_S256x512)
      (broadcastTo S256x512 (extractStridedSlice S256x1 ![1536, 0] (k0_pay10 x0) slices_S2048x1_o1536_0_S256x1) broadcasts_S256x1_S256x512)
      (broadcastTo S256x512 (extractStridedSlice S1x512 ![0, 1536] (topRow x1) slices_S1x2048_o0_1536_S1x512) broadcasts_S1x512_S256x512)
      (broadcastTo S256x512 (extractStridedSlice S256x1 ![1536, 0] (k0_pay9 x0) slices_S2048x1_o1536_0_S256x1) broadcasts_S256x1_S256x512)
      (broadcastTo S256x512 (extractStridedSlice S1x512 ![0, 1536] (k0_pay14 x1) slices_S1x2048_o0_1536_S1x512) broadcasts_S1x512_S256x512)
      (broadcastTo S256x512 (extractStridedSlice S256x1 ![1536, 0] (k0_pay11 x0) slices_S2048x1_o1536_0_S256x1) broadcasts_S256x1_S256x512)
      (broadcastTo S256x512 (extractStridedSlice S1x512 ![0, 1536] (areaRow x1) slices_S1x2048_o0_1536_S1x512) broadcasts_S1x512_S256x512) := by
  unfold strip6 k0_pay48 k0_pay43 k0_pay44 k0_pay45 k0_pay46 k0_pay47
  exact shapeCast_self _ _

theorem strip6_apply (r : Fin 256) (c : Fin 512) (i j : Fin 2048) (hi : i.val = 1536 + r.val) (hj : j.val = 1536 + c.val) :
    strip6 x0 x1 (ix2 r c) = mark x0 x1 i j := by
  rw [strip6_eq]
  exact stripWith_apply x0 x1 1536 r c i j hi hj
    ((spreadCol 1536 (k0_pay8 x0) slices_S2048x1_o1536_0_S256x1 broadcasts_S256x1_S256x512 r c i hi).trans (pay8_apply x0 i))
    ((spreadRow 1536 (k0_pay13 x1) slices_S1x2048_o0_1536_S1x512 broadcasts_S1x512_S256x512 r c j hj).trans (pay13_apply x1 j))
    ((spreadCol 1536 (k0_pay7 x0) slices_S2048x1_o1536_0_S256x1 broadcasts_S256x1_S256x512 r c i hi).trans (pay7_apply x0 i))
    ((spreadRow 1536 (k0_pay12 x1) slices_S1x2048_o0_1536_S1x512 broadcasts_S1x512_S256x512 r c j hj).trans (pay12_apply x1 j))
    ((spreadCol 1536 (k0_pay10 x0) slices_S2048x1_o1536_0_S256x1 broadcasts_S256x1_S256x512 r c i hi).trans (pay10_apply x0 i))
    ((spreadRow 1536 (topRow x1) slices_S1x2048_o0_1536_S1x512 broadcasts_S1x512_S256x512 r c j hj).trans (topRow_apply x1 j))
    ((spreadCol 1536 (k0_pay9 x0) slices_S2048x1_o1536_0_S256x1 broadcasts_S256x1_S256x512 r c i hi).trans (pay9_apply x0 i))
    ((spreadRow 1536 (k0_pay14 x1) slices_S1x2048_o0_1536_S1x512 broadcasts_S1x512_S256x512 r c j hj).trans (pay14_apply x1 j))
    ((spreadCol 1536 (k0_pay11 x0) slices_S2048x1_o1536_0_S256x1 broadcasts_S256x1_S256x512 r c i hi).trans (pay11_apply x0 i))
    ((spreadRow 1536 (areaRow x1) slices_S1x2048_o0_1536_S1x512 broadcasts_S1x512_S256x512 r c j hj).trans (areaRow_apply x1 j))

theorem strip7_eq : strip7 x0 x1 = stripWith 1792 iota_S256x256_d0_w32 iota_S256x256_d1_w32
      (broadcastTo S256x256 (extractStridedSlice S256x1 ![1792, 0] (k0_pay8 x0) slices_S2048x1_o1792_0_S256x1) broadcasts_S256x1_S256x256)
      (broadcastTo S256x256 (extractStridedSlice S1x256 ![0, 1792] (k0_pay13 x1) slices_S1x2048_o0_1792_S1x256) broadcasts_S1x256_S256x256)
      (broadcastTo S256x256 (extractStridedSlice S256x1 ![1792, 0] (k0_pay7 x0) slices_S2048x1_o1792_0_S256x1) broadcasts_S256x1_S256x256)
      (broadcastTo S256x256 (extractStridedSlice S1x256 ![0, 1792] (k0_pay12 x1) slices_S1x2048_o0_1792_S1x256) broadcasts_S1x256_S256x256)
      (broadcastTo S256x256 (extractStridedSlice S256x1 ![1792, 0] (k0_pay10 x0) slices_S2048x1_o1792_0_S256x1) broadcasts_S256x1_S256x256)
      (broadcastTo S256x256 (extractStridedSlice S1x256 ![0, 1792] (topRow x1) slices_S1x2048_o0_1792_S1x256) broadcasts_S1x256_S256x256)
      (broadcastTo S256x256 (extractStridedSlice S256x1 ![1792, 0] (k0_pay9 x0) slices_S2048x1_o1792_0_S256x1) broadcasts_S256x1_S256x256)
      (broadcastTo S256x256 (extractStridedSlice S1x256 ![0, 1792] (k0_pay14 x1) slices_S1x2048_o0_1792_S1x256) broadcasts_S1x256_S256x256)
      (broadcastTo S256x256 (extractStridedSlice S256x1 ![1792, 0] (k0_pay11 x0) slices_S2048x1_o1792_0_S256x1) broadcasts_S256x1_S256x256)
      (broadcastTo S256x256 (extractStridedSlice S1x256 ![0, 1792] (areaRow x1) slices_S1x2048_o0_1792_S1x256) broadcasts_S1x256_S256x256) := by
  unfold strip7 k0_pay54 k0_pay49 k0_pay50 k0_pay51 k0_pay52 k0_pay53
  exact shapeCast_self _ _

theorem strip7_apply (r : Fin 256) (c : Fin 256) (i j : Fin 2048) (hi : i.val = 1792 + r.val) (hj : j.val = 1792 + c.val) :
    strip7 x0 x1 (ix2 r c) = mark x0 x1 i j := by
  rw [strip7_eq]
  exact stripWith_apply x0 x1 1792 r c i j hi hj
    ((spreadCol 1792 (k0_pay8 x0) slices_S2048x1_o1792_0_S256x1 broadcasts_S256x1_S256x256 r c i hi).trans (pay8_apply x0 i))
    ((spreadRow 1792 (k0_pay13 x1) slices_S1x2048_o0_1792_S1x256 broadcasts_S1x256_S256x256 r c j hj).trans (pay13_apply x1 j))
    ((spreadCol 1792 (k0_pay7 x0) slices_S2048x1_o1792_0_S256x1 broadcasts_S256x1_S256x256 r c i hi).trans (pay7_apply x0 i))
    ((spreadRow 1792 (k0_pay12 x1) slices_S1x2048_o0_1792_S1x256 broadcasts_S1x256_S256x256 r c j hj).trans (pay12_apply x1 j))
    ((spreadCol 1792 (k0_pay10 x0) slices_S2048x1_o1792_0_S256x1 broadcasts_S256x1_S256x256 r c i hi).trans (pay10_apply x0 i))
    ((spreadRow 1792 (topRow x1) slices_S1x2048_o0_1792_S1x256 broadcasts_S1x256_S256x256 r c j hj).trans (topRow_apply x1 j))
    ((spreadCol 1792 (k0_pay9 x0) slices_S2048x1_o1792_0_S256x1 broadcasts_S256x1_S256x256 r c i hi).trans (pay9_apply x0 i))
    ((spreadRow 1792 (k0_pay14 x1) slices_S1x2048_o0_1792_S1x256 broadcasts_S1x256_S256x256 r c j hj).trans (pay14_apply x1 j))
    ((spreadCol 1792 (k0_pay11 x0) slices_S2048x1_o1792_0_S256x1 broadcasts_S256x1_S256x256 r c i hi).trans (pay11_apply x0 i))
    ((spreadRow 1792 (areaRow x1) slices_S1x2048_o0_1792_S1x256 broadcasts_S1x256_S256x256 r c j hj).trans (areaRow_apply x1 j))

/-- The pieces of the eight strips, the last first. -/
def stripPieces : List (View.Piece (Elt Ideal) S2048x2048 .bf16) := (writesOf x0 x1).take 8

/-- The entries as a matrix. -/
def marks : S2048x2048.Idx → EReal := fun y => mark x0 x1 (y 0) (y 1)

theorem emb_strip {o n : ℕ} (inb : ∀ a, (![o, o] : Fin 2 → ℕ) a + (![256, n] : Fin 2 → ℕ) a ≤ S2048x2048.size a)
    (w : FVec Ideal ⟨2, ![256, n]⟩ .bf16)
    (hw : ∀ (r : Fin 256) (c : Fin n) (i j : Fin 2048), i.val = o + r.val → j.val = o + c.val → w (ix2 r c) = mark x0 x1 i j)
    (x : (Rect.unit (s := S2048x2048) ![o, o] ![256, n] inb).shape.Idx) :
    w x = marks x0 x1 ((Rect.unit (s := S2048x2048) ![o, o] ![256, n] inb).emb x) := by
  have hx : x = ix2 (n0 := 256) (n1 := n) (x 0) (x 1) := eq_ix2 (n0 := 256) (n1 := n) x
  refine (congrArg w hx).trans (hw _ _ _ _ ?_ ?_)
  · exact ValueKit.rect_emb_unit_val _ _ _ x 0
  · exact ValueKit.rect_emb_unit_val _ _ _ x 1

theorem inStrip {o n : ℕ} (inb : ∀ a, (![o, o] : Fin 2 → ℕ) a + (![256, n] : Fin 2 → ℕ) a ≤ S2048x2048.size a) {i j : Fin 2048}
    (hi : o ≤ i.val ∧ i.val < o + 256) (hj : o ≤ j.val) (hj' : j.val < o + n) :
    ix2 i j ∈ (Rect.unit (s := S2048x2048) ![o, o] ![256, n] inb).set :=
  Rect.mem_set_unit.2 fun a => by
    match a with
    | ⟨0, _⟩ => exact hi
    | ⟨1, _⟩ => exact ⟨hj, hj'⟩

/-- The suppression matrix holds the entries. -/
theorem suppr_apply (i j : Fin 2048) : suppr x0 x1 (ix2 i j) = mark x0 x1 i j := by
  have hsplit : ∀ (L T : List (View.Piece (Elt Ideal) S2048x2048 .bf16)),
      (∀ p ∈ L, ∀ x : p.1.shape.Idx, p.2 x = marks x0 x1 (p.1.emb x)) → ∀ y : S2048x2048.Idx,
      (¬ (∃ p ∈ L, y ∈ p.1.set) → View.canon T y = marks x0 x1 y) → View.canon (L ++ T) y = marks x0 x1 y := by
    intro L T
    induction L with
    | nil => intro _ y hT; exact hT (by simp)
    | cons p L ih =>
      intro hL y hT
      by_cases hm : y ∈ p.1.set
      · obtain ⟨x, rfl⟩ := p.1.exists_idx_of_mem hm
        rw [List.cons_append, show p.1.idx x = p.1.emb x from rfl, View.canon_cons_emb]
        exact hL p (by simp) x
      · rw [List.cons_append, View.canon_cons_of_not_mem _ _ hm]
        refine ih (fun q hq => hL q (by simp [hq])) y fun hn => hT ?_
        rintro ⟨q, hq, hy⟩
        rcases List.mem_cons.mp hq with rfl | hq'
        · exact hm hy
        · exact hn ⟨q, hq', hy⟩
  have hcut : writesOf x0 x1 = stripPieces x0 x1 ++ [⟨Rect.unit ![0, 0] S2048x2048.size inb_S2048x2048_S2048x2048_0_0, k0_pay21 (F := Ideal)⟩] := rfl
  unfold suppr
  rw [hcut]
  refine hsplit _ _ ?_ (ix2 i j) fun hn => ?_
  · intro p hp
    simp only [stripPieces, writesOf, List.take_succ_cons, List.take_zero, List.mem_cons, List.not_mem_nil, or_false] at hp
    rcases hp with rfl | rfl | rfl | rfl | rfl | rfl | rfl | rfl
    · exact emb_strip x0 x1 inb_S2048x2048_S256x256_1792_1792 _ (strip7_apply x0 x1)
    · exact emb_strip x0 x1 inb_S2048x2048_S256x512_1536_1536 _ (strip6_apply x0 x1)
    · exact emb_strip x0 x1 inb_S2048x2048_S256x768_1280_1280 _ (strip5_apply x0 x1)
    · exact emb_strip x0 x1 inb_S2048x2048_S256x1024_1024_1024 _ (strip4_apply x0 x1)
    · exact emb_strip x0 x1 inb_S2048x2048_S256x1280_768_768 _ (strip3_apply x0 x1)
    · exact emb_strip x0 x1 inb_S2048x2048_S256x1536_512_512 _ (strip2_apply x0 x1)
    · exact emb_strip x0 x1 inb_S2048x2048_S256x1792_256_256 _ (strip1_apply x0 x1)
    · exact emb_strip x0 x1 inb_S2048x2048_S256x2048_0_0 _ (strip0_apply x0 x1)
  · have hji : ¬ i < j := by
      intro hij
      apply hn
      have hij' : i.val < j.val := hij
      have hjlt := j.isLt
      by_cases h7 : 1792 ≤ i.val
      · exact ⟨⟨Rect.unit ![1792, 1792] S256x256.size inb_S2048x2048_S256x256_1792_1792, strip7 x0 x1⟩, List.Mem.head _, inStrip inb_S2048x2048_S256x256_1792_1792 (by omega) (by omega) (by omega)⟩
      by_cases h6 : 1536 ≤ i.val
      · exact ⟨⟨Rect.unit ![1536, 1536] S256x512.size inb_S2048x2048_S256x512_1536_1536, strip6 x0 x1⟩, List.Mem.tail _ (List.Mem.head _), inStrip inb_S2048x2048_S256x512_1536_1536 (by omega) (by omega) (by omega)⟩
      by_cases h5 : 1280 ≤ i.val
      · exact ⟨⟨Rect.unit ![1280, 1280] S256x768.size inb_S2048x2048_S256x768_1280_1280, strip5 x0 x1⟩, List.Mem.tail _ (List.Mem.tail _ (List.Mem.head _)), inStrip inb_S2048x2048_S256x768_1280_1280 (by omega) (by omega) (by omega)⟩
      by_cases h4 : 1024 ≤ i.val
      · exact ⟨⟨Rect.unit ![1024, 1024] S256x1024.size inb_S2048x2048_S256x1024_1024_1024, strip4 x0 x1⟩, List.Mem.tail _ (List.Mem.tail _ (List.Mem.tail _ (List.Mem.head _))), inStrip inb_S2048x2048_S256x1024_1024_1024 (by omega) (by omega) (by omega)⟩
      by_cases h3 : 768 ≤ i.val
      · exact ⟨⟨Rect.unit ![768, 768] S256x1280.size inb_S2048x2048_S256x1280_768_768, strip3 x0 x1⟩, List.Mem.tail _ (List.Mem.tail _ (List.Mem.tail _ (List.Mem.tail _ (List.Mem.head _)))), inStrip inb_S2048x2048_S256x1280_768_768 (by omega) (by omega) (by omega)⟩
      by_cases h2 : 512 ≤ i.val
      · exact ⟨⟨Rect.unit ![512, 512] S256x1536.size inb_S2048x2048_S256x1536_512_512, strip2 x0 x1⟩, List.Mem.tail _ (List.Mem.tail _ (List.Mem.tail _ (List.Mem.tail _ (List.Mem.tail _ (List.Mem.head _))))), inStrip inb_S2048x2048_S256x1536_512_512 (by omega) (by omega) (by omega)⟩
      by_cases h1 : 256 ≤ i.val
      · exact ⟨⟨Rect.unit ![256, 256] S256x1792.size inb_S2048x2048_S256x1792_256_256, strip1 x0 x1⟩, List.Mem.tail _ (List.Mem.tail _ (List.Mem.tail _ (List.Mem.tail _ (List.Mem.tail _ (List.Mem.tail _ (List.Mem.head _)))))), inStrip inb_S2048x2048_S256x1792_256_256 (by omega) (by omega) (by omega)⟩
      exact ⟨⟨Rect.unit ![0, 0] S256x2048.size inb_S2048x2048_S256x2048_0_0, strip0 x0 x1⟩, List.Mem.tail _ (List.Mem.tail _ (List.Mem.tail _ (List.Mem.tail _ (List.Mem.tail _ (List.Mem.tail _ (List.Mem.tail _ (List.Mem.head _))))))), inStrip inb_S2048x2048_S256x2048_0_0 (by omega) (by omega) (by omega)⟩
    rw [View.canon_unit_zero (by funext a; fin_cases a <;> rfl)]
    unfold marks mark Sup
    rw [if_neg (fun h => hji h.1)]
    unfold k0_pay21
    rw [shapeCast_self]
    exact Ideal.ofBits_zero_bf16

end Marks

end Cert.Proof.Kern

end
-- ==== Proof.Greedy.lean ====
/-
  Greedy suppression, with no program in it. Candidates `0 … n-1`; `V` says which are valid, `S i j` that a kept `i`
  suppresses `j`, always with `i < j`. A set `K` is greedy when it holds exactly the valid candidates no member of `K`
  suppresses; there is exactly one such set. Going through the candidates once in order computes it, and so does repeating
  the parallel turn "kept: valid and not threatened by a candidate not yet known suppressed; suppressed: suppressed by a kept
  one" until every valid candidate is kept or suppressed, which takes at most `n` turns.
-/
module

public import Mathlib.Data.Fin.Basic
public import Mathlib.Order.Basic
public import Mathlib.Tactic.Common

@[expose] public section

namespace Cert.Proof.Greedy

variable {n : ℕ} (V : Fin n → Prop) (S : Fin n → Fin n → Prop)

/-- `K` holds exactly the valid candidates no member of `K` suppresses. -/
def IsGreedy (K : Fin n → Prop) : Prop := ∀ j, K j ↔ V j ∧ ¬ ∃ i, K i ∧ S i j

/-- The candidates gone through in order, `m` of them so far: each one still kept strikes out those it suppresses. -/
def pass : ℕ → Fin n → Prop
  | 0, j => V j
  | m + 1, j => pass m j ∧ ¬ ∃ i : Fin n, i.val = m ∧ pass m i ∧ S i j

/-- After `m` candidates, `j` is kept when it is valid and none of them, kept at its own turn, suppresses it. -/
theorem pass_iff (m : ℕ) (j : Fin n) :
    pass V S m j ↔ V j ∧ ¬ ∃ i : Fin n, i.val < m ∧ pass V S i.val i ∧ S i j := by
  induction m with
  | zero => simp [pass]
  | succ m ih =>
    rw [pass, ih]
    constructor
    · rintro ⟨⟨hv, h1⟩, h2⟩
      refine ⟨hv, ?_⟩
      rintro ⟨i, hi, hp, hs⟩
      rcases Nat.lt_succ_iff_lt_or_eq.mp hi with h | h
      · exact h1 ⟨i, h, hp, hs⟩
      · exact h2 ⟨i, h, h ▸ hp, hs⟩
    · rintro ⟨hv, h⟩
      refine ⟨⟨hv, ?_⟩, ?_⟩
      · rintro ⟨i, hi, hp, hs⟩
        exact h ⟨i, Nat.lt_succ_of_lt hi, hp, hs⟩
      · rintro ⟨i, hi, hp, hs⟩
        subst hi
        exact h ⟨i, Nat.lt_succ_self _, hp, hs⟩

/-- A candidate's status no longer changes after its own turn. -/
theorem pass_own (hS : ∀ i j, S i j → i < j) (j : Fin n) : pass V S n j ↔ pass V S j.val j := by
  rw [pass_iff, pass_iff]
  refine and_congr_right fun _ => not_congr (exists_congr fun i => ?_)
  constructor
  · rintro ⟨_, hp, hs⟩
    exact ⟨hS i j hs, hp, hs⟩
  · rintro ⟨_, hp, hs⟩
    exact ⟨i.isLt, hp, hs⟩

/-- The pass over every candidate ends at a greedy set. -/
theorem pass_isGreedy (hS : ∀ i j, S i j → i < j) : IsGreedy V S (pass V S n) := by
  intro j
  rw [pass_iff]
  refine and_congr_right fun _ => not_congr (exists_congr fun i => ?_)
  rw [pass_own V S hS i]
  exact ⟨fun h => h.2, fun h => ⟨i.isLt, h⟩⟩

/-- The kept set of one parallel turn, from the suppressed set `D`. -/
def turnK (D : Fin n → Prop) (j : Fin n) : Prop := V j ∧ ¬ ∃ i, (V i ∧ ¬ D i) ∧ S i j

/-- The suppressed set of one parallel turn. -/
def turnD (D : Fin n → Prop) (j : Fin n) : Prop := ∃ i, turnK V S D i ∧ S i j

/-- What holds of the kept set `k` and the suppressed set `D` after `t` turns, for the greedy set `K`: both are right as far
as they go, and the first `t` candidates are decided. -/
structure Inv (K : Fin n → Prop) (t : ℕ) (k D : Fin n → Prop) : Prop where
  kept : ∀ j, k j → K j
  dead : ∀ j, D j → ∃ i, K i ∧ S i j
  keptAll : ∀ j : Fin n, j.val < t → K j → k j
  deadAll : ∀ j : Fin n, j.val < t → V j → ¬ K j → D j

theorem Inv.start (K : Fin n → Prop) : Inv V S K 0 (fun _ => False) (fun _ => False) :=
  ⟨fun _ h => h.elim, fun _ h => h.elim, fun _ h => absurd h (Nat.not_lt_zero _), fun _ h => absurd h (Nat.not_lt_zero _)⟩

variable {V S}

/-- One parallel turn decides one candidate more. -/
theorem Inv.step (hS : ∀ i j, S i j → i < j) {K : Fin n → Prop} (hK : IsGreedy V S K) {t : ℕ} {k D : Fin n → Prop}
    (h : Inv V S K t k D) : Inv V S K (t + 1) (turnK V S D) (turnD V S D) := by
  have a : ∀ j, turnK V S D j → K j := by
    rintro j ⟨hv, hn⟩
    refine (hK j).2 ⟨hv, ?_⟩
    rintro ⟨i, hi, hs⟩
    refine hn ⟨i, ⟨((hK i).1 hi).1, fun hd => ?_⟩, hs⟩
    exact ((hK i).1 hi).2 (h.dead i hd)
  have b : ∀ j : Fin n, j.val < t + 1 → K j → turnK V S D j := by
    intro j hj hk
    refine ⟨((hK j).1 hk).1, ?_⟩
    rintro ⟨i, ⟨hv, hd⟩, hs⟩
    have hlt : i.val < t := lt_of_lt_of_le (hS i j hs) (Nat.lt_succ_iff.mp hj)
    by_cases hi : K i
    · exact ((hK j).1 hk).2 ⟨i, hi, hs⟩
    · exact hd (h.deadAll i hlt hv hi)
  refine ⟨a, ?_, b, ?_⟩
  · rintro j ⟨i, hi, hs⟩
    exact ⟨i, a i hi, hs⟩
  · intro j hj hv hk
    have : ∃ i, K i ∧ S i j := by
      by_contra hne
      exact hk ((hK j).2 ⟨hv, hne⟩)
    obtain ⟨i, hi, hs⟩ := this
    exact ⟨i, b i (lt_trans (hS i j hs) hj) hi, hs⟩

/-- Some valid candidate is neither kept nor suppressed. -/
def Open (V k D : Fin n → Prop) : Prop := ∃ j, V j ∧ ¬ k j ∧ ¬ D j

/-- After as many turns as candidates, none is open. -/
theorem Inv.closed {K : Fin n → Prop} {t : ℕ} {k D : Fin n → Prop} (h : Inv V S K t k D) (ht : n ≤ t) : ¬ Open V k D := by
  rintro ⟨j, hv, hk, hd⟩
  by_cases hj : K j
  · exact hk (h.keptAll j (lt_of_lt_of_le j.isLt ht) hj)
  · exact hd (h.deadAll j (lt_of_lt_of_le j.isLt ht) hv hj)

/-- When none is open the kept set is the greedy set. -/
theorem Inv.exit {K : Fin n → Prop} (hK : IsGreedy V S K) {t : ℕ} {k D : Fin n → Prop} (h : Inv V S K t k D)
    (ho : ¬ Open V k D) (j : Fin n) : k j ↔ K j := by
  refine ⟨h.kept j, fun hj => ?_⟩
  by_contra hk
  exact ho ⟨j, ((hK j).1 hj).1, hk, fun hd => ((hK j).1 hj).2 (h.dead j hd)⟩

end Cert.Proof.Greedy
-- ==== Proof.Indicator.lean ====
/-
  Zeros and ones on the extended reals: the indicator of a proposition, products and complements of indicators, and a sum of
  indicators, which is the number of true propositions among them; compared with one half or with zero it tells whether any is.
-/
module

public import Idealize.ShloMosaic.Lib.IdealHost
public import Idealize.ShloMosaic.PureOps.Ideal.Laws

@[expose] public section

noncomputable section

namespace Cert.Proof

open Idealize.ShloMosaic

open scoped Classical in
/-- One when `p` holds, zero when it does not. -/
def ind (p : Prop) : EReal := if p then 1 else 0

theorem ind_pos {p : Prop} (h : p) : ind p = 1 := if_pos h
theorem ind_neg {p : Prop} (h : ¬ p) : ind p = 0 := if_neg h

theorem ind_congr {p q : Prop} (h : p ↔ q) : ind p = ind q := by rw [propext h]

theorem ind_mul (p q : Prop) : ind p * ind q = ind (p ∧ q) := by
  by_cases hp : p <;> by_cases hq : q <;> simp [ind, hp, hq]

theorem one_sub_ind (p : Prop) : 1 - ind p = ind (¬ p) := by
  by_cases hp : p
  · rw [ind_pos hp, ind_neg (not_not.2 hp)]
    exact EReal.sub_self (by decide) (by decide)
  · rw [ind_neg hp, ind_pos hp]; exact sub_zero _

theorem ind_inj {p q : Prop} (h : ind p = ind q) : p ↔ q := by
  by_cases hp : p <;> by_cases hq : q <;> simp_all [ind]

open scoped Classical in
/-- A sum of indicators is the number of true ones. -/
theorem sum_ind {ι : Type} (s : Finset ι) (p : ι → Prop) :
    ∑ i ∈ s, ind (p i) = (((s.filter p).card : ℝ) : EReal) := by
  induction s using Finset.induction_on with
  | empty => simp
  | insert a s ha ih =>
    rw [Finset.sum_insert ha, ih, Finset.filter_insert]
    by_cases h : p a
    · rw [if_pos h, ind_pos h, Finset.card_insert_of_notMem (fun hm => ha (Finset.mem_filter.1 hm).1)]
      push_cast
      rw [add_comm]
    · rw [if_neg h, ind_neg h, zero_add]

theorem half_eq : Ideal.ofBits .f32 0x3F000000#32 = (((1 : ℝ) / 2 : ℝ) : EReal) := by
  simp [Ideal.ofBits, Ideal.ieee, -EReal.coe_mul]; norm_num

theorem negInf_eq : Ideal.ofBits .f32 0xFF800000#32 = ⊥ := by
  simp [Ideal.ofBits, Ideal.ieee]

theorem half_lt_one : Ideal.ofBits .f32 0x3F000000#32 < 1 := by
  rw [half_eq, ← EReal.coe_one, EReal.coe_lt_coe_iff]; norm_num

theorem zero_lt_half : 0 < Ideal.ofBits .f32 0x3F000000#32 := by
  rw [half_eq, ← EReal.coe_zero, EReal.coe_lt_coe_iff]; norm_num

theorem half_lt_ind (p : Prop) : Ideal.ofBits .f32 0x3F000000#32 < ind p ↔ p := by
  by_cases h : p
  · rw [ind_pos h]; exact iff_of_true half_lt_one h
  · rw [ind_neg h]; exact iff_of_false (not_lt.2 zero_lt_half.le) h

theorem one_le_sum_ind {ι : Type} {s : Finset ι} {p : ι → Prop} (h : ∃ i ∈ s, p i) : 1 ≤ ∑ i ∈ s, ind (p i) := by
  classical
  obtain ⟨i, hi, hp⟩ := h
  rw [sum_ind, ← EReal.coe_one, EReal.coe_le_coe_iff]
  have : 0 < (s.filter p).card := Finset.card_pos.2 ⟨i, Finset.mem_filter.2 ⟨hi, hp⟩⟩
  exact_mod_cast this

theorem sum_ind_zero {ι : Type} {s : Finset ι} {p : ι → Prop} (h : ¬ ∃ i ∈ s, p i) : ∑ i ∈ s, ind (p i) = 0 :=
  Finset.sum_eq_zero fun i hi => ind_neg fun hp => h ⟨i, hi, hp⟩

theorem half_lt_sum {ι : Type} [Fintype ι] (p : ι → Prop) :
    Ideal.ofBits .f32 0x3F000000#32 < ∑ i, ind (p i) ↔ ∃ i, p i := by
  by_cases h : ∃ i, p i
  · obtain ⟨i, hi⟩ := h
    exact iff_of_true (lt_of_lt_of_le half_lt_one (one_le_sum_ind ⟨i, Finset.mem_univ i, hi⟩)) ⟨i, hi⟩
  · rw [sum_ind_zero fun ⟨i, _, hi⟩ => h ⟨i, hi⟩]
    exact iff_of_false (not_lt.2 zero_lt_half.le) h

theorem sum_lt_half {ι : Type} [Fintype ι] (p : ι → Prop) :
    ∑ i, ind (p i) < Ideal.ofBits .f32 0x3F000000#32 ↔ ¬ ∃ i, p i := by
  by_cases h : ∃ i, p i
  · obtain ⟨i, hi⟩ := h
    exact iff_of_false (not_lt.2 (half_lt_one.le.trans (one_le_sum_ind ⟨i, Finset.mem_univ i, hi⟩))) (not_not.2 ⟨i, hi⟩)
  · rw [sum_ind_zero fun ⟨i, _, hi⟩ => h ⟨i, hi⟩]
    exact iff_of_true zero_lt_half h

theorem zero_lt_sum {ι : Type} [Fintype ι] (p : ι → Prop) : 0 < ∑ i, ind (p i) ↔ ∃ i, p i := by
  by_cases h : ∃ i, p i
  · obtain ⟨i, hi⟩ := h
    exact iff_of_true (lt_of_lt_of_le zero_lt_one (one_le_sum_ind ⟨i, Finset.mem_univ i, hi⟩)) ⟨i, hi⟩
  · rw [sum_ind_zero fun ⟨i, _, hi⟩ => h ⟨i, hi⟩]
    exact iff_of_false (lt_irrefl _) h

end Cert.Proof

end
-- ==== Proof.Turn.lean ====
/-
  The loop on the extended reals. Its rows are zeros and ones, so each names a set of candidates; one turn is the parallel turn
  of greedy suppression, the loop's test says that a valid candidate is still undecided, and so the loop ends within 2048
  turns at the row of the greedy set. This is where a fixed-point iteration with matrix products meets a sequential pass.
-/
module

public import proofs.«01_k».proof.Proof.Suppr
public import proofs.«01_k».proof.Proof.Greedy
public import proofs.«01_k».proof.Proof.Indicator
public import Idealize.ShloMosaic.Lib.MatmulPlain

@[expose] public section

noncomputable section

namespace Cert.Proof.Kern

open Cert.KernelIdeal Cert.KernelIdeal.Gen

open Idealize.ShloMosaic Idealize.ShloMosaic.ValueIdx
open Cert.Proof.Greedy

/-- The row `v` is the indicator of the set `p` of candidates. -/
def RowIs (v : FVec Ideal S1x2048 .f32) (p : Fin 2048 → Prop) : Prop := ∀ j : Fin 2048, v (ix2 (0 : Fin 1) j) = ind (p j)

theorem bit_select {α : Type} (p : Prop) [Decidable p] (a b : α) :
    Scalar.select (BitVec.ofBool (decide p)) a b = if p then a else b := by
  by_cases h : p <;> simp [h, Scalar.select]

/-- The sum of a row, as the programs take it. -/
def rowSum (v : FVec Ideal S1x2048 .f32) : EReal :=
  extractAt ![0, 0, 0] (shapeCast S1x1x1 (multiReduction .add [1, 2] S1 (shapeCast S1x1x2048 v shapeCasts_S1x2048_S1x1x2048)
    0x00000000#32 reduces_S1x1x2048_S1 (.inl rfl) rfl) shapeCasts_S1_S1x1x1) inpos_S1x1x1_p0_0_0

theorem rowSum_eq (v : FVec Ideal S1x2048 .f32) : rowSum v = ∑ j : Fin 2048, v (ix2 (0 : Fin 1) j) := by
  refine (Ideal.multiReduction_add_total _ _ reduces_S1x1x2048_S1 (fun b => by fin_cases b; rfl) (.inl rfl) rfl _).trans ?_
  refine (Equiv.sum_comp (Shape.reshapeEquiv shapeCasts_S1x2048_S1x1x2048) v).trans ?_
  rw [sum_idx2, Fin.sum_univ_one]

section Sets

variable {V : Fin 2048 → Prop} {S : Fin 2048 → Fin 2048 → Prop}
variable {va : FVec Ideal S1x2048 .f32} {sm : Vec Ideal S2048x2048 .bf16}

/-- The kept row of a turn. -/
theorem pay2_row (hv : RowIs va V) (hs : ∀ i j, sm (ix2 i j) = ind (S i j)) {dead : FVec Ideal S1x2048 .f32}
    {D : Fin 2048 → Prop} (hd : RowIs dead D) : RowIs (k0_pay2 va sm dead) (turnK V S D) := by
  intro j
  unfold k0_pay2
  show Scalar.select (Ideal.cmp .olt (FloatOps.matmul (F := Ideal) (DotDims.plain 1 2048 2048) none _ sm _ (ix2 (0 : Fin 1) j)) _) (va (ix2 0 j)) _ = _
  rw [Ideal.matmul_plain_apply]
  have e : ∀ k : Fin 2048, va (ix2 (0 : Fin 1) k) * (Ideal.ofBits .f32 0x3F800000#32 - dead (ix2 (0 : Fin 1) k)) * sm (ix2 k j)
      = ind ((V k ∧ ¬ D k) ∧ S k j) := fun k => by
    rw [hv k, hd k, hs k j, Ideal.ofBits_one_f32, one_sub_ind, ind_mul, ind_mul]
  show Scalar.select (BitVec.ofBool (decide (Ideal.ofBits .f32 0x00000000#32 + ∑ k : Fin 2048,
    va (ix2 (0 : Fin 1) k) * (Ideal.ofBits .f32 0x3F800000#32 - dead (ix2 (0 : Fin 1) k)) * sm (ix2 k j)
      < Ideal.ofBits .f32 0x3F000000#32))) (va (ix2 (0 : Fin 1) j)) (Ideal.ofBits .f32 0x00000000#32) = _
  rw [bit_select, Finset.sum_congr rfl fun k _ => e k, Ideal.ofBits_zero_f32, zero_add, hv j]
  by_cases h : ∃ k, (V k ∧ ¬ D k) ∧ S k j
  · rw [if_neg fun hlt => (sum_lt_half _).1 hlt h, ind_neg fun hk => hk.2 h]
  · rw [if_pos ((sum_lt_half _).2 h)]
    exact ind_congr ⟨fun hj => ⟨hj, h⟩, fun hj => hj.1⟩

/-- The suppressed row of a turn. -/
theorem pay3_row (hv : RowIs va V) (hs : ∀ i j, sm (ix2 i j) = ind (S i j)) {dead : FVec Ideal S1x2048 .f32}
    {D : Fin 2048 → Prop} (hd : RowIs dead D) : RowIs (k0_pay3 va sm dead) (turnD V S D) := by
  intro j
  have hk := pay2_row hv hs hd
  unfold k0_pay3
  show Scalar.select (Ideal.cmp .ogt (FloatOps.matmul (F := Ideal) (DotDims.plain 1 2048 2048) none _ sm _ (ix2 (0 : Fin 1) j)) _) _ _ = _
  rw [Ideal.matmul_plain_apply]
  have e : ∀ k : Fin 2048, k0_pay2 va sm dead (ix2 (0 : Fin 1) k) * sm (ix2 k j) = ind (turnK V S D k ∧ S k j) := fun k => by
    rw [hk k, hs k j, ind_mul]
  show Scalar.select (BitVec.ofBool (decide (Ideal.ofBits .f32 0x3F000000#32 < Ideal.ofBits .f32 0x00000000#32 + ∑ k : Fin 2048,
    k0_pay2 va sm dead (ix2 (0 : Fin 1) k) * sm (ix2 k j)))) (Ideal.ofBits .f32 0x3F800000#32) (Ideal.ofBits .f32 0x00000000#32) = _
  rw [bit_select, Finset.sum_congr rfl fun k _ => e k, Ideal.ofBits_zero_f32, Ideal.ofBits_one_f32, zero_add]
  by_cases h : ∃ k, turnK V S D k ∧ S k j
  · rw [if_pos ((half_lt_sum _).2 h)]; exact (ind_pos h).symm
  · rw [if_neg fun hlt => h ((half_lt_sum _).1 hlt)]; exact (ind_neg h).symm

/-- The number undecided after a turn. -/
theorem pay4_row (hv : RowIs va V) (hs : ∀ i j, sm (ix2 i j) = ind (S i j)) {dead : FVec Ideal S1x2048 .f32}
    {D : Fin 2048 → Prop} (hd : RowIs dead D) :
    k0_pay4 va sm dead = ∑ j, ind ((V j ∧ ¬ turnK V S D j) ∧ ¬ turnD V S D j) := by
  have hk := pay2_row hv hs hd
  have hd' := pay3_row hv hs hd
  unfold k0_pay4
  refine (rowSum_eq _).trans (Finset.sum_congr rfl fun j _ => ?_)
  show va (ix2 (0 : Fin 1) j) * (Ideal.ofBits .f32 0x3F800000#32 - k0_pay2 va sm dead (ix2 (0 : Fin 1) j))
    * (Ideal.ofBits .f32 0x3F800000#32 - k0_pay3 va sm dead (ix2 (0 : Fin 1) j)) = _
  rw [hv j, hk j, hd' j, Ideal.ofBits_one_f32, one_sub_ind, one_sub_ind, ind_mul, ind_mul]

/-- The loop's state `s` holds the sets `k` and `D`, and its test says whether a valid candidate is still open. -/
structure Holds (V : Fin 2048 → Prop) (s : LoopState Ideal) (k D : Fin 2048 → Prop) : Prop where
  kept : RowIs s.1 k
  dead : RowIs s.2.1 D
  goes : Goes s ↔ Open V k D

theorem goes_iff (s : LoopState Ideal) : Goes s ↔ 0 < s.2.2 := by
  unfold Goes
  show BitVec.ofBool (decide (Ideal.ofBits .f32 0x00000000#32 < s.2.2)) = 1#1 ↔ _
  rw [Ideal.ofBits_zero_f32]
  by_cases h : 0 < s.2.2 <;> simp [h]

theorem Holds.turn (hv : RowIs va V) (hs : ∀ i j, sm (ix2 i j) = ind (S i j)) {s : LoopState Ideal} {k D : Fin 2048 → Prop}
    (h : Holds V s k D) : Holds V (turn va sm s) (turnK V S D) (turnD V S D) := by
  refine ⟨pay2_row hv hs h.dead, pay3_row hv hs h.dead, ?_⟩
  rw [goes_iff]
  show 0 < k0_pay4 va sm s.2.1 ↔ _
  rw [pay4_row hv hs h.dead, zero_lt_sum]
  exact exists_congr fun j => and_assoc

/-- From any state reached after `t` turns, the loop ends within the turns that remain, at the greedy set. -/
theorem loop_ends (hv : RowIs va V) (hs : ∀ i j, sm (ix2 i j) = ind (S i j)) (hS : ∀ i j, S i j → i < j)
    {K : Fin 2048 → Prop} (hK : IsGreedy V S K) :
    ∀ (m t : ℕ) (s : LoopState Ideal) (k D : Fin 2048 → Prop), 2048 ≤ m + t → Inv V S K t k D → Holds V s k D →
      HaltsIn va sm m s ∧ RowIs (runFrom va sm m s).1 K := by
  intro m
  induction m with
  | zero =>
    intro t s k D ht hi h
    have hc := hi.closed (by omega)
    refine ⟨fun hg => hc (h.goes.1 hg), ?_⟩
    rw [runFrom]
    exact fun j => (h.kept j).trans (ind_congr (hi.exit hK hc j))
  | succ m ih =>
    intro t s k D ht hi h
    by_cases hg : Goes s
    · obtain ⟨a, b⟩ := ih (t + 1) (Kern.turn va sm s) _ _ (by omega) (hi.step hS hK) (h.turn hv hs)
      refine ⟨fun _ => a, ?_⟩
      rw [runFrom, if_pos hg]
      exact b
    · refine ⟨fun hg' => absurd hg' hg, ?_⟩
      rw [runFrom, if_neg hg]
      exact fun j => (h.kept j).trans (ind_congr (hi.exit hK (fun ho => hg (h.goes.2 ho)) j))

end Sets

section Block

variable (x0 : Vec Ideal S1x2048x18 .f32) (x1 : Vec Ideal S1x8x2048 .f32)

/-- Candidate `j` is valid: its score, row 7 of the transposed block, is above minus infinity. -/
def Valid (j : Fin 2048) : Prop := ⊥ < inCol x1 j 7

/-- The candidates the kernel keeps. -/
def Kept (j : Fin 2048) : Prop := pass (Valid x1) (Sup x0 x1) 2048 j

theorem sup_lt (i j : Fin 2048) (h : Sup x0 x1 i j) : i < j := h.1

theorem kept_greedy : IsGreedy (Valid x1) (Sup x0 x1) (Kept x0 x1) := pass_isGreedy _ _ (sup_lt x0 x1)

theorem validRow_row : RowIs (validRow x1) (Valid x1) := by
  intro j
  unfold validRow k0_pay55 k0_pay20
  show ((((Ideal.cmp .ogt (extractStridedSlice S1x2048 ![7, 0] (k0_pay6 x1) slices_S8x2048_o7_0_S1x2048 (ix2 (0 : Fin 1) j))
    (Ideal.ofBits .f32 0xFF800000#32)).setWidth 32).toInt : ℝ) : EReal) = _
  rw [slice2_axis0_apply 7 (k0_pay6 x1) slices_S8x2048_o7_0_S1x2048 (0 : Fin 1) j (7 : Fin 8) rfl, pay6_apply, negInf_eq]
  show ((((BitVec.ofBool (decide (⊥ < inCol x1 j 7))).setWidth 32).toInt : ℝ) : EReal) = ind (⊥ < inCol x1 j 7)
  by_cases h : ⊥ < inCol x1 j 7
  · rw [ind_pos h, decide_eq_true h]; simp
  · rw [ind_neg h, decide_eq_false h]; simp

theorem suppr_ind (i j : Fin 2048) : suppr x0 x1 (ix2 i j) = ind (Sup x0 x1 i j) := by
  rw [suppr_apply]; rfl

theorem start_holds : Holds (Valid x1) (start x1) (fun _ => False) (fun _ => False) := by
  have z : RowIs (k0_pay56 (F := Ideal)) (fun _ => False) := fun j => by
    rw [ind_neg not_false]; exact Ideal.ofBits_zero_f32
  refine ⟨z, z, ?_⟩
  rw [goes_iff]
  show 0 < rowSum (validRow x1) ↔ _
  rw [rowSum_eq, Finset.sum_congr rfl fun j _ => validRow_row x1 j, zero_lt_sum]
  exact exists_congr fun j => by simp

theorem ends : Halts x0 x1 ∧ RowIs (keptRow x0 x1) (Kept x0 x1) :=
  loop_ends (validRow_row x1) (suppr_ind x0 x1) (sup_lt x0 x1) (kept_greedy x0 x1) 2048 0 (start x1) _ _ (by omega)
    (Inv.start _ _ _) (start_holds x1)

/-- The loop of every point ends. -/
theorem halts : Halts x0 x1 := (ends x0 x1).1

/-- The kept row is the greedy set. -/
theorem keptRow_row : RowIs (keptRow x0 x1) (Kept x0 x1) := (ends x0 x1).2

end Block

end Cert.Proof.Kern

end
-- ==== Proof.Order.lean ====
/-
  Sorting and counting: how a stable sort arranges marked positions whose values already descend, and
  which position holds the `r`-th mark.
-/
module

public import Idealize.ShloMosaic.Lib.SortFacts
public import Mathlib.Order.Interval.Finset.Fin
public import Idealize.ShloMosaic.PureOps.Ideal.Laws

@[expose] public section

noncomputable section

namespace Cert.Proof.Order

open Idealize.ShloMosaic

variable {n : ℕ}

/-- A position that no element of the list precedes is inserted in front. -/
theorem insert_front {ι : Type} (before : ι → ι → Bool) (a : ι) (l : List ι) (h : ∀ b ∈ l, before b a = false) :
    insertBefore before a l = a :: l := by
  cases l with
  | nil => rfl
  | cons b l => unfold insertBefore; rw [h b List.mem_cons_self]; rfl

/-- A position is inserted behind a prefix whose elements all precede it. -/
theorem insert_behind {ι : Type} (before : ι → ι → Bool) (a : ι) (p q : List ι) (h : ∀ b ∈ p, before b a = true) :
    insertBefore before a (p ++ q) = p ++ insertBefore before a q := by
  induction p with
  | nil => rfl
  | cons b p ih =>
    rw [List.cons_append, insertBefore, h b List.mem_cons_self, if_pos rfl,
      ih fun c hc => h c (List.mem_cons_of_mem _ hc), List.cons_append]

/-- Let no later position precede a marked one, let the marked ones precede the unmarked ones, and let no
    unmarked one precede an unmarked one. Then sorting lists the marked positions in order, then the rest. -/
theorem stableSort_marked {ι : Type} (before : ι → ι → Bool) (K : ι → Bool) (l : List ι)
    (h1 : l.Pairwise fun a b => K a = true → before b a = false)
    (h2 : ∀ a b, K a = true → K b = false → before a b = true)
    (h3 : ∀ a b, K a = false → K b = false → before a b = false) :
    stableSort before l = l.filter K ++ l.filter fun a => !K a := by
  induction l with
  | nil => rfl
  | cons a l ih =>
    rw [List.pairwise_cons] at h1
    rw [stableSort, ih h1.2]
    cases ha : K a with
    | true =>
      rw [List.filter_cons_of_pos (by simpa using ha), List.filter_cons_of_neg (by simp [ha]), List.cons_append]
      refine insert_front _ _ _ fun b hb => h1.1 b ?_ ha
      rcases List.mem_append.mp hb with h | h <;> exact (List.mem_filter.mp h).1
    | false =>
      rw [List.filter_cons_of_neg (by simp [ha]), List.filter_cons_of_pos (by simp [ha]),
        insert_behind _ _ _ _ fun b hb => h2 b a (List.mem_filter.mp hb).2 ha]
      refine congrArg _ (insert_front _ _ _ fun b hb => h3 b a ?_ ha)
      simpa using (List.mem_filter.mp hb).2

open Classical in
/-- The number of marked positions up to and including `j`. -/
def upTo (K : Fin n → Prop) (j : Fin n) : ℕ := (Finset.univ.filter fun i => i ≤ j ∧ K i).card

open Classical in
/-- The number of marked positions. -/
def total (K : Fin n → Prop) : ℕ := (Finset.univ.filter K).card

theorem upTo_le_total (K : Fin n → Prop) (j : Fin n) : upTo K j ≤ total K := by
  classical
  unfold upTo total
  exact Finset.card_le_card fun i hi => by
    simp only [Finset.mem_filter, Finset.mem_univ, true_and] at hi ⊢
    exact hi.2

theorem total_le (K : Fin n → Prop) : total K ≤ n := by
  classical
  unfold total
  exact (Finset.card_le_univ _).trans (by rw [Fintype.card_fin])

/-- Two marked positions with equally many marks up to them are the same. -/
theorem upTo_inj (K : Fin n → Prop) {i j : Fin n} (hi : K i) (hj : K j) (h : upTo K i = upTo K j) : i = j := by
  classical
  have lt_of : ∀ {a b : Fin n}, a < b → K b → upTo K a < upTo K b := fun {a b} hab hb => by
    unfold upTo
    refine Finset.card_lt_card ⟨fun x hx => ?_, fun hs => ?_⟩
    · simp only [Finset.mem_filter, Finset.mem_univ, true_and] at hx ⊢
      exact ⟨hx.1.trans hab.le, hx.2⟩
    · have := hs (show b ∈ Finset.univ.filter fun i => i ≤ b ∧ K i by simp [hb])
      simp only [Finset.mem_filter, Finset.mem_univ, true_and] at this
      exact absurd this.1 (not_le.mpr hab)
  rcases lt_trichotomy i j with h' | h' | h'
  · have := lt_of h' hj; omega
  · exact h'
  · have := lt_of h' hi; omega

/-- Entry `r` of the list of marked positions: marked, with `r + 1` marks up to it. -/
theorem filter_get (K : Fin n → Prop) (k : Fin n → Bool) (hk : ∀ i, k i = true ↔ K i) (r : ℕ)
    (hr : r < ((List.finRange n).filter k).length) :
    K (((List.finRange n).filter k)[r]) ∧ upTo K (((List.finRange n).filter k)[r]) = r + 1 := by
  classical
  set L := (List.finRange n).filter k with hL
  have hs : L.Pairwise (· < ·) := (List.pairwise_lt_finRange n).filter _
  have hmem : ∀ i, i ∈ L ↔ K i := fun i => by
    rw [hL, List.mem_filter]; simp [hk]
  have hget : ∀ a b : Fin L.length, a < b → L.get a < L.get b := fun a b hab => List.pairwise_iff_get.mp hs a b hab
  have hinj : Function.Injective L.get := fun a b hab => by
    rcases lt_trichotomy a b with h | h | h
    · exact absurd hab (hget a b h).ne
    · exact h
    · exact absurd hab (hget b a h).ne'
  refine ⟨(hmem _).mp (List.getElem_mem hr), ?_⟩
  have hset : (Finset.univ.filter fun i => i ≤ L[r] ∧ K i) = (Finset.univ.filter fun a : Fin L.length => a.val ≤ r).image L.get := by
    ext i
    simp only [Finset.mem_filter, Finset.mem_univ, true_and, Finset.mem_image]
    constructor
    · rintro ⟨h1, h2⟩
      obtain ⟨a, ha⟩ := List.get_of_mem ((hmem i).mpr h2)
      refine ⟨a, ?_, ha⟩
      by_contra hc
      have := hget ⟨r, hr⟩ a (by rw [Fin.lt_def]; exact not_le.mp hc)
      rw [ha] at this
      exact absurd h1 (not_le.mpr this)
    · rintro ⟨a, ha, rfl⟩
      refine ⟨?_, (hmem _).mp (List.get_mem _ _)⟩
      rcases lt_or_eq_of_le ha with h | h
      · exact (hget a ⟨r, hr⟩ (by rw [Fin.lt_def]; exact h)).le
      · subst h; exact le_refl _
  unfold upTo
  rw [hset, Finset.card_image_of_injective _ hinj]
  have : (Finset.univ.filter fun a : Fin L.length => a.val ≤ r) = Finset.Iic ⟨r, hr⟩ := by
    ext a; simp [Fin.le_def]
  rw [this, Fin.card_Iic]

/-- The list of marked positions is as long as there are marks. -/
theorem filter_length (K : Fin n → Prop) (k : Fin n → Bool) (hk : ∀ i, k i = true ↔ K i) :
    ((List.finRange n).filter k).length = total K := by
  classical
  unfold total
  rw [← List.toFinset_card_of_nodup ((List.nodup_finRange n).filter _)]
  congr 1
  ext i
  simp [hk]

/-- Values that descend, masked down to the bottom where `K` does not hold, sort to the marked positions in
    order: entry `r` is marked with `r + 1` marks up to it while there are that many, and unmarked after. -/
theorem sortedFrom_masked (K : Fin n → Prop) (v w : Fin n → EReal) (hv : ∀ i j, i < j → v j ≤ v i)
    (hK : ∀ j, K j → ⊥ < v j) (hw1 : ∀ j, K j → w j = v j) (hw0 : ∀ j, ¬K j → w j = ⊥)
    (before : Fin n → Fin n → Bool) (hb : ∀ i j, before i j = true ↔ w j < w i) (r : Fin n) :
    (r.val < total K → K (sortedFrom before r) ∧ upTo K (sortedFrom before r) = r.val + 1)
      ∧ (total K ≤ r.val → ¬K (sortedFrom before r)) := by
  classical
  have hf : ∀ i j, before i j = false ↔ ¬ w j < w i := fun i j => by
    rw [← hb i j]; cases before i j <;> simp
  set k : Fin n → Bool := fun i => decide (K i) with hkd
  have hk : ∀ i, k i = true ↔ K i := fun i => by simp [hkd]
  have hk' : ∀ i, k i = false ↔ ¬K i := fun i => by simp [hkd]
  have hsplit : sortPositions n before = (List.finRange n).filter k ++ (List.finRange n).filter fun a => !k a := by
    refine stableSort_marked before k _ ?_ ?_ ?_
    · refine (List.pairwise_lt_finRange n).imp (S := fun a b => k a = true → before b a = false) ?_
      intro a b hab ha
      refine (hf b a).mpr (not_lt.mpr ?_)
      rw [hw1 a ((hk a).mp ha)]
      by_cases hb' : K b
      · rw [hw1 b hb']; exact hv a b hab
      · rw [hw0 b hb']; exact bot_le
    · intro a b ha hb'
      rw [hb, hw0 b ((hk' b).mp hb'), hw1 a ((hk a).mp ha)]
      exact hK a ((hk a).mp ha)
    · intro a b ha hb'
      rw [hf, hw0 a ((hk' a).mp ha), hw0 b ((hk' b).mp hb')]
      exact lt_irrefl _
  have hl := filter_length K k hk
  have hg : sortedFrom before r = (sortPositions n before)[r.val]'(by rw [length_sortPositions]; exact r.isLt) := rfl
  refine ⟨fun h => ?_, fun h => ?_⟩
  · have hr : r.val < ((List.finRange n).filter k).length := by rw [hl]; exact h
    have e : sortedFrom before r = ((List.finRange n).filter k)[r.val] := by
      rw [hg]
      simp only [hsplit]
      exact List.getElem_append_left hr
    rw [e]
    exact filter_get K k hk r.val hr
  · have e : sortedFrom before r ∈ (List.finRange n).filter fun a => !k a := by
      rw [hg]
      simp only [hsplit]
      rw [List.getElem_append_right (by rw [hl]; exact h)]
      exact List.getElem_mem _
    have := (List.mem_filter.mp e).2
    simpa [hkd] using this

/-- A sort by greater first leaves the values descending. -/
theorem sortedFrom_descends (w : Fin n → EReal) (before : Fin n → Fin n → Bool)
    (hb : ∀ i j, before i j = true ↔ w j < w i) (i j : Fin n) (hij : i < j) :
    w (sortedFrom before j) ≤ w (sortedFrom before i) := by
  have hf : ∀ i j, before i j = false ↔ ¬ w j < w i := fun i j => by
    rw [← hb i j]; cases before i j <;> simp
  have := sortedFrom_noInversion before before
    (fun a b h => (hf b a).mpr (not_lt.mpr ((hb a b).mp h).le)) (fun a b h => h)
    (fun a b c h1 h2 => (hf a c).mpr (not_lt.mpr ((not_lt.mp ((hf a b).mp h1)).trans (not_lt.mp ((hf b c).mp h2))))) i j hij
  exact not_lt.mp ((hf _ _).mp this)

end Cert.Proof.Order

end
-- ==== Proof.Prefix.lean ====
/-
  The kernel's prefix counts: a row added to itself shifted by 1, 2, 4, … holds at every candidate how many are kept up to it.
-/
module

public import proofs.«01_k».proof.Proof.Turn
public import proofs.«01_k».proof.Proof.Order
public import Idealize.ShloMosaic.Lib.Pipeline.Value

@[expose] public section

set_option maxRecDepth 10000

noncomputable section

namespace Cert.Proof.Kern

open Cert.KernelIdeal Cert.KernelIdeal.Gen
open Idealize.ShloMosaic Idealize.ShloMosaic.ValueIdx
open Cert.Proof.Order

open Classical in
/-- How many of the `w` candidates that end with `j` are in `K`. -/
def run (K : Fin 2048 → Prop) (w : ℕ) (j : Fin 2048) : ℕ := (Finset.univ.filter fun i : Fin 2048 => i ≤ j ∧ j.val < i.val + w ∧ K i).card

theorem run_one (K : Fin 2048 → Prop) (j : Fin 2048) : ((run K 1 j : ℝ) : EReal) = ind (K j) := by
  classical
  have e : (Finset.univ.filter fun i : Fin 2048 => i ≤ j ∧ j.val < i.val + 1 ∧ K i) = if K j then {j} else ∅ := by
    ext i
    simp only [Finset.mem_filter, Finset.mem_univ, true_and]
    constructor
    · rintro ⟨h1, h2, h3⟩
      obtain rfl : i = j := by have : i.val ≤ j.val := h1; exact Fin.ext (by omega)
      rw [if_pos h3]; exact Finset.mem_singleton_self _
    · intro h
      by_cases hK : K j
      · rw [if_pos hK, Finset.mem_singleton] at h
        subst h
        exact ⟨le_refl _, by omega, hK⟩
      · rw [if_neg hK] at h; exact absurd h (Finset.notMem_empty _)
  unfold run
  rw [show (Finset.univ.filter fun i : Fin 2048 => i ≤ j ∧ j.val < i.val + 1 ∧ K i).card = if K j then 1 else 0 by
    rw [Finset.filter_congr_decidable] at e ⊢
    rw [e]; split <;> rfl]
  by_cases hK : K j
  · rw [if_pos hK, ind_pos hK]; simp
  · rw [if_neg hK, ind_neg hK]; simp

theorem run_all (K : Fin 2048 → Prop) (j : Fin 2048) : run K 2048 j = upTo K j := by
  classical
  unfold run upTo
  congr 1
  ext i
  have := j.isLt
  simp only [Finset.mem_filter, Finset.mem_univ, true_and]
  exact ⟨fun h => ⟨h.1, h.2.2⟩, fun h => ⟨h.1, by omega, h.2⟩⟩

/-- Twice as many candidates: the nearer half, and the farther half where there is one. -/
theorem run_double (K : Fin 2048 → Prop) (w : ℕ) (j : Fin 2048) :
    run K (w + w) j = run K w j + if h : w ≤ j.val then run K w ⟨j.val - w, by omega⟩ else 0 := by
  classical
  by_cases h : w ≤ j.val
  · rw [dif_pos h]
    unfold run
    rw [← Finset.card_union_of_disjoint]
    · congr 1
      ext i
      simp only [Finset.mem_filter, Finset.mem_union, Finset.mem_univ, true_and, Fin.le_def]
      constructor
      · rintro ⟨h1, h2, h3⟩
        by_cases hn : j.val < i.val + w
        · exact .inl ⟨h1, hn, h3⟩
        · exact .inr ⟨by omega, by omega, h3⟩
      · rintro (⟨h1, h2, h3⟩ | ⟨h1, h2, h3⟩)
        · exact ⟨h1, by omega, h3⟩
        · exact ⟨by omega, by omega, h3⟩
    · rw [Finset.disjoint_left]
      intro i hi hi'
      simp only [Finset.mem_filter, Finset.mem_univ, true_and, Fin.le_def] at hi hi'
      omega
  · rw [dif_neg h, Nat.add_zero]
    unfold run
    congr 1
    ext i
    simp only [Finset.mem_filter, Finset.mem_univ, true_and, Fin.le_def]
    exact ⟨fun ⟨h1, h2, h3⟩ => ⟨h1, by omega, h3⟩, fun ⟨h1, h2, h3⟩ => ⟨h1, by omega, h3⟩⟩

/-- The row plus the row shifted right by `d`, zeros shifted in. -/
def shiftAdd (d e : ℕ) (hc : Shape.Concatenates [⟨2, ![1, d]⟩, ⟨2, ![1, e]⟩] S1x2048 1) (hs : S1x2048.Slices ![0, 0] ⟨2, ![1, e]⟩)
    (v : FVec Ideal S1x2048 .f32) : FVec Ideal S1x2048 .f32 :=
  addf v (concatenate S1x2048 1 [⟨⟨2, ![1, d]⟩, (broadcast ⟨2, ![1, d]⟩ (Scalar.ofBits (F := Ideal) .f32 0x00000000#32) : FVec Ideal ⟨2, ![1, d]⟩ .f32)⟩,
    ⟨⟨2, ![1, e]⟩, extractStridedSlice ⟨2, ![1, e]⟩ ![0, 0] v hs⟩] hc)

/-- The row counts, at every candidate, the last `w`. -/
def Counts (v : FVec Ideal S1x2048 .f32) (K : Fin 2048 → Prop) (w : ℕ) : Prop := ∀ j : Fin 2048, v (ix2 (0 : Fin 1) j) = ((run K w j : ℝ) : EReal)

theorem counts_step {d e : ℕ} (hc : Shape.Concatenates [⟨2, ![1, d]⟩, ⟨2, ![1, e]⟩] S1x2048 1) (hs : S1x2048.Slices ![0, 0] ⟨2, ![1, e]⟩)
    {v : FVec Ideal S1x2048 .f32} {K : Fin 2048 → Prop} (hde : d + e = 2048) (h : Counts v K d) : Counts (shiftAdd d e hc hs v) K (d + d) := by
  intro j
  unfold shiftAdd
  have hsum : ∀ y : EReal, y = (((if h : d ≤ j.val then run K d ⟨j.val - d, by omega⟩ else 0 : ℕ) : ℝ) : EReal) →
      v (ix2 (0 : Fin 1) j) + y = ((run K (d + d) j : ℝ) : EReal) := by
    intro y hy
    rw [hy, h j, run_double]
    push_cast
    rfl
  refine hsum _ ?_
  by_cases hd : d ≤ j.val
  · rw [dif_pos hd]
    refine (concatenate_pair_apply_right (α := EReal) 1 _ _ hc (ix2 (0 : Fin 1) j) rfl rfl (ix2 (0 : Fin 1) (⟨j.val - d, by omega⟩ : Fin e)) (fun b hb => ?_) ?_).trans ?_
    · match b with
      | ⟨0, _⟩ => rfl
      | ⟨1, _⟩ => exact absurd rfl hb
    · exact Nat.sub_add_cancel hd
    · refine (extractStridedSlice_apply _ _ _ _ (ix2 (0 : Fin 1) (⟨j.val - d, by omega⟩ : Fin 2048)) fun a => ?_).trans (h _)
      match a with
      | ⟨0, _⟩ => rfl
      | ⟨1, _⟩ => exact (Nat.zero_add _).symm
  · rw [dif_neg hd]
    refine (concatenate_pair_apply_left (α := EReal) 1 _ _ hc (ix2 (0 : Fin 1) j) rfl (ix2 (0 : Fin 1) (⟨j.val, by omega⟩ : Fin d)) (fun b => ?_)).trans ?_
    · match b with
      | ⟨0, _⟩ => rfl
      | ⟨1, _⟩ => rfl
    · show Ideal.ofBits .f32 0x00000000#32 = _
      rw [Ideal.ofBits_zero_f32]
      simp

/-- The eleven shifts. -/
def slots (v : FVec Ideal S1x2048 .f32) : FVec Ideal S1x2048 .f32 :=
  shiftAdd 1024 1024 concatenates_S1x1024_S1x1024_S1x2048_d1 slices_S1x2048_o0_0_S1x1024 <|
  shiftAdd 512 1536 concatenates_S1x512_S1x1536_S1x2048_d1 slices_S1x2048_o0_0_S1x1536 <|
  shiftAdd 256 1792 concatenates_S1x256_S1x1792_S1x2048_d1 slices_S1x2048_o0_0_S1x1792 <|
  shiftAdd 128 1920 concatenates_S1x128_S1x1920_S1x2048_d1 slices_S1x2048_o0_0_S1x1920 <|
  shiftAdd 64 1984 concatenates_S1x64_S1x1984_S1x2048_d1 slices_S1x2048_o0_0_S1x1984 <|
  shiftAdd 32 2016 concatenates_S1x32_S1x2016_S1x2048_d1 slices_S1x2048_o0_0_S1x2016 <|
  shiftAdd 16 2032 concatenates_S1x16_S1x2032_S1x2048_d1 slices_S1x2048_o0_0_S1x2032 <|
  shiftAdd 8 2040 concatenates_S1x8_S1x2040_S1x2048_d1 slices_S1x2048_o0_0_S1x2040 <|
  shiftAdd 4 2044 concatenates_S1x4_S1x2044_S1x2048_d1 slices_S1x2048_o0_0_S1x2044 <|
  shiftAdd 2 2046 concatenates_S1x2_S1x2046_S1x2048_d1 slices_S1x2048_o0_0_S1x2046 <|
  shiftAdd 1 2047 concatenates_S1x1_S1x2047_S1x2048_d1 slices_S1x2048_o0_0_S1x2047 v

/-- After them the row holds how many are kept up to every candidate. -/
theorem slots_at {v : FVec Ideal S1x2048 .f32} {K : Fin 2048 → Prop} (h : RowIs v K) (j : Fin 2048) :
    slots v (ix2 (0 : Fin 1) j) = ((upTo K j : ℝ) : EReal) := by
  have h0 : Counts v K 1 := fun j => (h j).trans (run_one K j).symm
  have h1 := counts_step concatenates_S1x1_S1x2047_S1x2048_d1 slices_S1x2048_o0_0_S1x2047 (by decide) h0
  have h2 := counts_step concatenates_S1x2_S1x2046_S1x2048_d1 slices_S1x2048_o0_0_S1x2046 (by decide) h1
  have h3 := counts_step concatenates_S1x4_S1x2044_S1x2048_d1 slices_S1x2048_o0_0_S1x2044 (by decide) h2
  have h4 := counts_step concatenates_S1x8_S1x2040_S1x2048_d1 slices_S1x2048_o0_0_S1x2040 (by decide) h3
  have h5 := counts_step concatenates_S1x16_S1x2032_S1x2048_d1 slices_S1x2048_o0_0_S1x2032 (by decide) h4
  have h6 := counts_step concatenates_S1x32_S1x2016_S1x2048_d1 slices_S1x2048_o0_0_S1x2016 (by decide) h5
  have h7 := counts_step concatenates_S1x64_S1x1984_S1x2048_d1 slices_S1x2048_o0_0_S1x1984 (by decide) h6
  have h8 := counts_step concatenates_S1x128_S1x1920_S1x2048_d1 slices_S1x2048_o0_0_S1x1920 (by decide) h7
  have h9 := counts_step concatenates_S1x256_S1x1792_S1x2048_d1 slices_S1x2048_o0_0_S1x1792 (by decide) h8
  have h10 := counts_step concatenates_S1x512_S1x1536_S1x2048_d1 slices_S1x2048_o0_0_S1x1536 (by decide) h9
  have h11 := counts_step concatenates_S1x1024_S1x1024_S1x2048_d1 slices_S1x2048_o0_0_S1x1024 (by decide) h10
  have := h11 j
  rw [run_all] at this
  exact this

/-- The payload's row of counts is these shifts. -/
theorem pay60_eq (v : FVec Ideal S1x2048 .f32) :
    k0_pay60 v (k0_pay58 (F := Ideal)) (k0_pay59 v)
      = cmpi .eq (broadcastTo S512x2048 (iota .tc S512x1 32 [0] iota_S512x1_d0_w32) broadcasts_S512x1_S512x2048)
          (broadcastTo S512x2048 (fptosi 32 (subf (slots v) (broadcast S1x2048 (Scalar.ofBits (F := Ideal) .f32 0x3F800000#32)))) broadcasts_S1x2048_S512x2048) := by
  rfl

/-- The comparison at one entry: the slot's number against the count less one. -/
theorem pay60_at (v : FVec Ideal S1x2048 .f32) (r : Fin 512) (j : Fin 2048) :
    k0_pay60 v (k0_pay58 (F := Ideal)) (k0_pay59 v) (ix2 r j)
      = IntOp.cmpi .eq (BitVec.ofNat 32 r.val)
          (Ideal.fptosi 32 (slots v (ix2 (0 : Fin 1) j) - Ideal.ofBits .f32 0x3F800000#32)) := by
  rw [pay60_eq]
  have e1 : (broadcastTo S512x2048 (iota .tc S512x1 32 [0] iota_S512x1_d0_w32) broadcasts_S512x1_S512x2048) (ix2 r j) = BitVec.ofNat 32 r.val := by
    refine (broadcastTo_apply _ _ (ix2 r j) (ix2 r (0 : Fin 1)) fun a => ?_).trans ?_
    · match a with
      | ⟨0, _⟩ => rfl
      | ⟨1, _⟩ => rfl
    · exact iota_single_apply .tc S512x1 32 0 iota_S512x1_d0_w32 (ix2 r (0 : Fin 1))
  have e2 : ∀ w : IVec S1x2048 32, (broadcastTo S512x2048 w broadcasts_S1x2048_S512x2048) (ix2 r j) = w (ix2 (0 : Fin 1) j) := fun w => by
    refine broadcastTo_apply _ _ (ix2 r j) (ix2 (0 : Fin 1) j) fun a => ?_
    match a with
    | ⟨0, _⟩ => rfl
    | ⟨1, _⟩ => rfl
  exact congrArg₂ (IntOp.cmpi .eq) e1 (e2 _)

end Cert.Proof.Kern

end
-- ==== Proof.Largest.lean ====
/-
  The largest of the three entries of a row, as the kernel and the reference each take it.
-/
module

public import proofs.«01_k».proof.Proof.Indicator
public import Idealize.ShloMosaic.Lib.KernelVsHost
public import Idealize.ShloMosaic.PureOps.Ideal.Laws

@[expose] public section

noncomputable section

namespace Cert.Proof

open Idealize.ShloMosaic Idealize.ShloMosaic.ValueIdx

/-- A row's maximum over an axis of three. -/
theorem rowMax {n : ℕ} (x : FVec Ideal ⟨2, ![n, 3]⟩ .f32) (h : Shape.Reduces ⟨2, ![n, 3]⟩ [1] ⟨1, ![n]⟩) (hφ : FKind.Formats .f32)
    (hacc : (0xFF800000#32 : BitVec 32) = FKind.maximumf.neutral .f32 hφ) (r : Fin n) :
    (multiReduction .maximumf [1] ⟨1, ![n]⟩ x 0xFF800000#32 h hφ hacc (ValueIdx.ix1 r) : EReal)
      = Finset.univ.fold max (⊥ : EReal) fun k : Fin 3 => (x (ValueIdx.ix2 r k) : EReal) := by
  refine (Ideal.multiReduction_maximumf_single x _ h hφ hacc _).trans ?_
  rw [show (FloatOps.ofBits (F := Ideal) .f32 (0xFF800000#32) : EReal) = ⊥ from negInf_eq]
  refine congrArg (fun f : Fin 3 → EReal => Finset.univ.fold max (⊥ : EReal) f) (funext fun k => ?_)
  refine congrArg x (funext fun a => Fin.ext ?_)
  match a with
  | ⟨0, _⟩ => rfl
  | ⟨1, _⟩ => rfl

/-- The host's reduction with maximum from minus infinity. -/
theorem hostRowMax {n : ℕ} {u : Shape} (x : FVec Ideal ⟨2, ![n, 3]⟩ .f32) (h : Shape.ReducesTo ⟨2, ![n, 3]⟩ [1] ⟨1, ![n]⟩) (hu : 0 < u.numel)
    (h' : Shape.Reduces ⟨2, ![n, 3]⟩ [1] ⟨1, ![n]⟩) (r : Fin n) :
    (Host.reduce (FloatOps.maximumf (F := Ideal) (φ := .f32)) x (constant (F := Ideal) u .f32 0xFF800000#32) h hu (ValueIdx.ix1 r) : EReal)
      = Finset.univ.fold max (⊥ : EReal) fun k : Fin 3 => (x (ValueIdx.ix2 r k) : EReal) := by
  exact (congrFun (hostReduce_maximumf_eq_multiReduction x 0xFF800000#32 h hu h' (.inl rfl) rfl) _).trans (rowMax x h' _ _ r)

end Cert.Proof

end
-- ==== Proof.BodyRun.lean ====
/-
  The kernel's body at one grid point: given its two input blocks, and given that the point's loop halts, the body ends
  with the inputs as they were and the two result blocks holding `selBlock` and `smallBlock`.
-/
module

public import proofs.«01_k».proof.Proof.Block
public import Idealize.ShloMosaic.Lib.VecWindow
public import Idealize.ShloMosaic.Lib.WholeRead

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer through the full rectangle reads its contents. -/
theorem readAt_whole {s : Shape} {e : EltTy} {sp : Space} (m : Memref sig .tc sp s e) (h : m.IsWhole) (X : s.Idx → Elt F e)
    {off : Fin s.rank → ℕ} (inb : ∀ a, off a + s.size a ≤ s.size a) :
    m.view.readAt (Elt F) (Rect.unit off s.size inb).toLoadRect (h.unread X) = X := by
  rw [View.readAt_full]; exact h.read_unread X

set_option maxHeartbeats 1000000 in
/-- The body's run. -/
theorem kernelRun (c : Dev nD) (i : grid0.Coords) (arg1 : Memref sig .tc .vmem S1x2048x18 .f32) (harg1 : arg1.IsWhole) (arg2 : Memref sig .tc .vmem S1x8x2048 .f32) (harg2 : arg2.IsWhole) (arg3 : Memref sig .tc .vmem S1x512x16 .f32) (harg3 : arg3.IsWhole) (arg4 : Memref sig .tc .vmem S1x512x8 .f32) (harg4 : arg4.IsWhole) (arg5 : Memref sig .tc .vmem S2048x2048 .bf16) (harg5 : arg5.IsWhole)
    (x0 : Vec F S1x2048x18 .f32) (x1 : Vec F S1x8x2048 .f32) (hx : Halts x0 x1) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ owns (c : Thread nD τ) arg3 fullShare (selBlock x0 x1) ∗ owns (c : Thread nD τ) arg4 fullShare (smallBlock x0 x1)
                ∗ (∃ d, owns (c : Thread nD τ) arg5 fullShare d)) -∗ K ⟨⟩))
          ⊢ wp frame (wpE (defs₀ (F := F)) 𝒱₀ c none) E (cc0__nms_body i arg1 harg1 arg2 harg2 arg3 harg3 arg4 harg4 arg5 harg5) K := by
    simp only [cc0__nms_body_eq_skeleton]; unfold cc0__nms_body_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    have e0 := readAt_whole arg1 harg1 x0 inb_S1x2048x18_S1x2048x18_0_0_0
    have e1 := readAt_whole arg2 harg2 x1 inb_S1x8x2048_S1x8x2048_0_0_0
    have er : kernelRun.sl.r c arg1 harg1 x0 = k0_pay5 x0 := by unfold kernelRun.sl.r; rw [e0]
    have er14 : kernelRun.sl.r_14 c arg2 harg2 x1 = k0_pay20 (k0_pay6 x1) := by
      unfold kernelRun.sl.r_14 kernelRun.sl.r_1; rw [e1]
    have eL : kernelRun.sl.HS0_9 c arg1 harg1 arg2 harg2 x0 x1 = writesOf x0 x1 := by
      unfold kernelRun.sl.HS0_9 writesOf strip0 strip1 strip2 strip3 strip4 strip5 strip6 strip7 topRow areaRow
      try unfold kernelRun.sl.cst_20
      try unfold kernelRun.sl.cst_43
      try unfold kernelRun.sl.v144
      try unfold kernelRun.sl.v194
      try unfold kernelRun.sl.r_35
      try unfold kernelRun.sl.r_34
      try unfold kernelRun.sl.r_33
      try unfold kernelRun.sl.r_32
      try unfold kernelRun.sl.r_31
      try unfold kernelRun.sl.r_30
      try unfold kernelRun.sl.r_29
      try unfold kernelRun.sl.r_28
      try unfold kernelRun.sl.r_27
      try unfold kernelRun.sl.r_26
      try unfold kernelRun.sl.r_25
      try unfold kernelRun.sl.r_24
      try unfold kernelRun.sl.r_23
      try unfold kernelRun.sl.r_22
      try unfold kernelRun.sl.r_21
      try unfold kernelRun.sl.r_20
      try unfold kernelRun.sl.r_19
      try unfold kernelRun.sl.r_18
      try unfold kernelRun.sl.r_17
      try unfold kernelRun.sl.r_16
      try unfold kernelRun.sl.r_15
      try unfold kernelRun.sl.r_14
      try unfold kernelRun.sl.r_13
      try unfold kernelRun.sl.r_12
      try unfold kernelRun.sl.r_11
      try unfold kernelRun.sl.r_10
      try unfold kernelRun.sl.r_9
      try unfold kernelRun.sl.r_8
      try unfold kernelRun.sl.r_7
      try unfold kernelRun.sl.r_6
      try unfold kernelRun.sl.r_5
      try unfold kernelRun.sl.r_4
      try unfold kernelRun.sl.r_3
      try unfold kernelRun.sl.r_2
      rw [e0, e1]
    have ev : kernelRun.sl.v476 c arg1 harg1 arg2 harg2 arg5 x0 x1 = suppr x0 x1 := by
      unfold kernelRun.sl.v476 suppr
      rw [eL, View.readCov_eq_canon']
      funext j
      exact congrArg _ (Rect.emb_unit_full inb_S2048x2048_S2048x2048_0_0 j)
    rw [er, er14, ev]
    iapply (wp_call_spec 𝒱₀ (c : Thread nD τ) none E (loopSpec (validRow x1) (suppr x0 x1) 2048 (start x1)) 2048
      (fun u hu => nomatch hu) (loopSpec_le c E i (validRow x1) (suppr x0 x1) 2048 (start x1) hx))
    rw [loopSpec_apply]
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro; rw [View.read_writes_full]; rfl
    isplitl [H3]
    · iexists _; isplitr
      swap; · iexact H3
      ipureintro; erw [View.read_writes_full]; rfl
    iexists _; iexists _; isplitr
    swap; · iexact HS0
    ipureintro; rfl

end Cert.Proof.Kern

end
-- ==== Proof.Launch.lean ====
/-
  The kernel program as a whole: at each of the grid's four points the body turns the point's two input blocks into
  `selBlock` and `smallBlock` of them, so the program ends, with both result arrays holding those blocks, every other
  array as the host operations leave it, and every semaphore at zero. The one hypothesis is that each point's loop halts.
-/
module

public import proofs.«01_k».proof.Proof.BodyRun
public import Idealize.ShloMosaic.Lib.Claim

@[expose] public section

set_option maxRecDepth 16384

noncomputable section

namespace Cert.Proof.Kern

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each window's buffer holds after the body at point `t`: the inputs their blocks, the outputs the two result
    blocks of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => selBlock (iblk m c 0 t) (iblk m c 1 t)
    | ⟨3, _⟩ => smallBlock (iblk m c 0 t) (iblk m c 1 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) :
    (dats m 0 c).after 2 t = selBlock (iblk m c 0 t) (iblk m c 1 t) := rfl
theorem after0_3 (c : Dev nD) (t : Fin (cfg0 (F := F)).N) :
    (dats m 0 c).after 3 t = smallBlock (iblk m c 0 t) (iblk m c 1 t) := rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d

/-- Every point's loop halts. -/
def AllHalt : Prop := ∀ (c : Dev nD) (t : Fin (cfg0 (F := F)).N), Halts (iblk m c 0 t) (iblk m c 1 t)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (hh : AllHalt m) (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply (kernelRun c (grid0.coords t) _ _ _ _ _ _ _ _ _ _ (iblk m c 0 t) (iblk m c 1 t) (hh c t) Set.univ _)
  isplitl [H0]; · iexact H0
  isplitl [H1]; · iexact H1
  isplitl [H2]; · iexists _; iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (hh : AllHalt m) (c : Dev nD) :
    BodyObligation (dats (F := F) m 0 c) (defs₀ (F := F)) 𝒱₀ () Set.univ := fun t => by
  rw [bigSep_W0, bigSep_W0, defs₀_row]
  exact triple_restated (sound_body m hh c t) rfl .rfl fun _ => .rfl

set_option backward.isDefEq.respectTransparency.types false in
set_option maxHeartbeats 800000 in
/-- The run: it ends, in the state the library computes from `dats`, with every semaphore at zero. -/
theorem run_main_quiescent (hh : AllHalt m) :
    θ_run defs (onTc (τ := τ) (main (F := F))) (s₀ m ρ) (fun r =>
      (Pipeline.FramePost cfgs (dats m) 0 (Pipeline.afterTail₀ cfgs (dats m) 0 (V0 m) [hostOps1])) r ∧ r.2.sem = fun _ => 0) :=
  Pipeline.θ_run_frame_around (Q' := _) (cfgs (F := F)) (dats m) (0 : Fin 1) launch0 defs₀ 𝒱₀ m ρ main
    (hbody := fun c => (body_obligation m hh c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

theorem run_main (hh : AllHalt m) :
    θ_run defs (onTc (τ := τ) (main (F := F))) (s₀ m ρ)
      (Pipeline.FramePost cfgs (dats m) 0 (Pipeline.afterTail₀ cfgs (dats m) 0 (V0 m) [hostOps1])) :=
  (θ_run defs _ _).mono (fun _ h => h.1) (run_main_quiescent m ρ hh)

/-- The arguments end unchanged and the semaphores at zero. -/
theorem frame (hh : AllHalt m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ hh))
    ((θ_run defs _ _).mono (fun _ h => h.2) (run_main_quiescent m ρ hh))

end Cert.Proof.Kern

end
-- ==== Proof.KTail.lean ====
/-
  The kernel's end: a one-hot matrix puts the kept candidates, in order, into the slots.
-/
module

public import proofs.«01_k».proof.Proof.Prefix
public import proofs.«01_k».proof.Proof.Largest
public import proofs.«01_k».proof.Proof.Launch

@[expose] public section

set_option maxRecDepth 10000

noncomputable section

namespace Cert.Proof.Kern

open Cert.KernelIdeal Cert.KernelIdeal.Gen
open Idealize.ShloMosaic Idealize.ShloMosaic.ValueIdx
open Cert.Proof.Order

/-- A natural number below the words' positive half converts to itself. -/
theorem fptosi_nat (k : ℕ) (h : k < 2 ^ 31) : Ideal.fptosi 32 ((k : ℝ) : EReal) = BitVec.ofNat 32 k := by
  have e : Ideal.toIntClamped (-(2 ^ (32 - 1) : Nat)) ((2 ^ (32 - 1) : Nat) - 1) ((k : ℝ) : EReal) = (k : ℤ) := by
    show max _ (min _ (if (0 : ℝ) ≤ (k : ℝ) then ⌊(k : ℝ)⌋ else ⌈(k : ℝ)⌉)) = _
    rw [if_pos (Nat.cast_nonneg k), Int.floor_natCast]
    norm_num at h ⊢
    omega
  unfold Ideal.fptosi
  rw [e, BitVec.ofInt_natCast]

theorem ofNat_eq {a b : ℕ} (ha : a < 2 ^ 32) (hb : b < 2 ^ 32) : (BitVec.ofNat 32 a == BitVec.ofNat 32 b) = decide (a = b) := by
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl

theorem slt_nat {a b : ℕ} (ha : a < 2 ^ 31) (hb : b < 2 ^ 31) : (BitVec.ofNat 32 a).slt (BitVec.ofNat 32 b) = decide (a < b) := by
  have e : ∀ {k : ℕ}, k < 2 ^ 31 → (BitVec.ofNat 32 k).toInt = k := fun {k} hk => by
    rw [BitVec.toInt_eq_toNat_of_lt] <;> rw [BitVec.toNat_ofNat, Nat.mod_eq_of_lt (by omega)]
    omega
  unfold BitVec.slt
  rw [e ha, e hb]
  simp

section Tail

variable {v : FVec Ideal S1x2048 .f32} {K : Fin 2048 → Prop} (hv : RowIs v K)

/-- The slot's matrix at one entry: candidate `j` is kept and is number `r`. -/
def oneHot (v : FVec Ideal S1x2048 .f32) : FVec Ideal S512x2048 .f32 :=
  select (andi (k0_pay60 v (k0_pay58 (F := Ideal)) (k0_pay59 v))
      (broadcastTo S512x2048 (cmpf .ogt v (broadcast S1x2048 (Scalar.ofBits (F := Ideal) .f32 0x3F000000#32))) broadcasts_S1x2048_S512x2048))
    (broadcast S512x2048 (Scalar.ofBits (F := Ideal) .f32 0x3F800000#32)) (broadcast S512x2048 (Scalar.ofBits (F := Ideal) .f32 0x00000000#32))

include hv in
theorem oneHot_at (r : Fin 512) (j : Fin 2048) : oneHot v (ix2 r j) = ind (K j ∧ upTo K j = r.val + 1) := by
  classical
  have e2 : (broadcastTo S512x2048 (cmpf .ogt v (broadcast S1x2048 (Scalar.ofBits (F := Ideal) .f32 0x3F000000#32))) broadcasts_S1x2048_S512x2048) (ix2 r j)
      = BitVec.ofBool (decide (K j)) := by
    refine (broadcastTo_apply _ _ (ix2 r j) (ix2 (0 : Fin 1) j) fun a => ?_).trans ?_
    · match a with
      | ⟨0, _⟩ => rfl
      | ⟨1, _⟩ => rfl
    · show BitVec.ofBool (decide (Ideal.ofBits .f32 0x3F000000#32 < v (ix2 (0 : Fin 1) j))) = _
      rw [hv j]
      exact congrArg BitVec.ofBool (decide_eq_decide.2 (half_lt_ind _))
  have e1 : K j → k0_pay60 v (k0_pay58 (F := Ideal)) (k0_pay59 v) (ix2 r j) = BitVec.ofBool (decide (upTo K j = r.val + 1)) := fun hK => by
    rw [pay60_at, slots_at hv j, Ideal.ofBits_one_f32]
    have hpos : 1 ≤ upTo K j := by
      unfold upTo
      exact Finset.card_pos.2 ⟨j, by simp [hK]⟩
    have hle : upTo K j ≤ 2048 := (upTo_le_total K j).trans (total_le K)
    obtain ⟨n, hn⟩ : ∃ n, upTo K j = n + 1 := ⟨upTo K j - 1, by omega⟩
    rw [hn]
    have : (((n + 1 : ℕ) : ℝ) : EReal) - 1 = ((n : ℝ) : EReal) := by
      rw [← EReal.coe_one, ← EReal.coe_sub]; simp
    rw [this, fptosi_nat n (by omega)]
    show BitVec.ofBool (BitVec.ofNat 32 r.val == BitVec.ofNat 32 n) = _
    rw [ofNat_eq (by omega) (by omega)]
    exact congrArg BitVec.ofBool (decide_eq_decide.2 (by omega))
  show Scalar.select (IntOp.andi (k0_pay60 v (k0_pay58 (F := Ideal)) (k0_pay59 v) (ix2 r j)) _)
    (Ideal.ofBits .f32 0x3F800000#32) (Ideal.ofBits .f32 0x00000000#32) = _
  rw [e2, Ideal.ofBits_one_f32, Ideal.ofBits_zero_f32]
  by_cases hK : K j
  · rw [e1 hK]
    by_cases hu : upTo K j = r.val + 1
    · rw [ind_pos ⟨hK, hu⟩, decide_eq_true hK, decide_eq_true hu]; rfl
    · rw [ind_neg fun h => hu h.2, decide_eq_true hK, decide_eq_false hu]; rfl
  · rw [ind_neg fun h => hK h.1, decide_eq_false hK]
    show Scalar.select (_ &&& 0#1) _ _ = _
    rw [BitVec.and_zero]; rfl

variable (v1 : FVec Ideal S2048x18 .f32)

include hv in
/-- The product of the one-hot matrix and ten of the columns. -/
theorem pay61_at (r : Fin 512) (k : Fin 10) :
    k0_pay61 v1 v (k0_pay60 v (k0_pay58 (F := Ideal)) (k0_pay59 v)) (ix2 r k)
      = ∑ j : Fin 2048, ind (K j ∧ upTo K j = r.val + 1) * v1 (ix2 j (⟨8 + k.val, by omega⟩ : Fin 18)) := by
  unfold k0_pay61
  show FloatOps.matmul (F := Ideal) (DotDims.plain 512 2048 10) (some .fp32) (oneHot v) _ _ (ix2 r k) = _
  rw [Ideal.matmul_plain_apply]
  show Ideal.ofBits .f32 0x00000000#32 + _ = _
  rw [Ideal.ofBits_zero_f32, zero_add]
  refine Finset.sum_congr rfl fun j _ => ?_
  rw [oneHot_at hv]
  refine congrArg (ind _ * ·) (extractStridedSlice_apply _ _ _ _ (ix2 j (⟨8 + k.val, by omega⟩ : Fin 18)) fun a => ?_)
  match a with
  | ⟨0, _⟩ => exact (Nat.zero_add _).symm
  | ⟨1, _⟩ => rfl

/-- A sum over the candidates that are number `r` has one term at most. -/
theorem sum_picked (K : Fin 2048 → Prop) (r : ℕ) (f : Fin 2048 → EReal) (j : Fin 2048) (hj : K j ∧ upTo K j = r + 1) :
    ∑ i : Fin 2048, ind (K i ∧ upTo K i = r + 1) * f i = f j := by
  rw [Finset.sum_eq_single j, ind_pos hj, one_mul]
  · intro i _ hi
    rw [ind_neg fun h => hi (upTo_inj K h.1 hj.1 (h.2.trans hj.2.symm)), zero_mul]
  · exact fun h => absurd (Finset.mem_univ j) h

theorem sum_none (K : Fin 2048 → Prop) (r : ℕ) (f : Fin 2048 → EReal) (hj : ¬∃ j, K j ∧ upTo K j = r + 1) :
    ∑ i : Fin 2048, ind (K i ∧ upTo K i = r + 1) * f i = 0 :=
  Finset.sum_eq_zero fun i _ => by rw [ind_neg fun h => hj ⟨i, h⟩, zero_mul]

/-- There is a number `r` exactly when more than `r` are kept. -/
theorem exists_iff (K : Fin 2048 → Prop) (r : ℕ) : (∃ j, K j ∧ upTo K j = r + 1) ↔ r < total K := by
  classical
  constructor
  · rintro ⟨j, _, hj⟩
    have := upTo_le_total K j
    omega
  · intro h
    have hr : r < 2048 := h.trans_le (total_le K)
    have := (sortedFrom_masked K (fun _ => (1 : EReal)) (fun j => if K j then 1 else ⊥) (fun _ _ _ => le_refl _) (fun _ _ => EReal.bot_lt_coe 1)
      (fun j hj => if_pos hj) (fun j hj => if_neg hj) (fun i j => decide ((if K j then (1 : EReal) else ⊥) < if K i then 1 else ⊥))
      (fun i j => decide_eq_true_iff) ⟨r, hr⟩).1 h
    exact ⟨_, this⟩

/-- The mask column of the second block. -/
def maskCol (v : FVec Ideal S1x2048 .f32) : FVec Ideal S512x1 .f32 :=
  select (cmpi .slt (iota .tc S512x1 32 [0] iota_S512x1_d0_w32) (broadcast S512x1 (Scalar.fptosi (F := Ideal) 32 (φ := .f32) (rowSum v))))
    (broadcast S512x1 (Scalar.ofBits (F := Ideal) .f32 0x3F800000#32)) (broadcast S512x1 (Scalar.ofBits (F := Ideal) .f32 0x00000000#32))

include hv in
theorem maskCol_at (r : Fin 512) : maskCol v (ix2 r (0 : Fin 1)) = ind (∃ j, K j ∧ upTo K j = r.val + 1) := by
  classical
  have hs : rowSum v = ((total K : ℝ) : EReal) := by
    rw [rowSum_eq, Finset.sum_congr rfl fun j _ => hv j, sum_ind]
    unfold total
    congr
  have hle := total_le K
  show Scalar.select (IntOp.cmpi .slt (iota .tc S512x1 32 [0] iota_S512x1_d0_w32 (ix2 r (0 : Fin 1))) (Ideal.fptosi 32 (rowSum v)))
    (Ideal.ofBits .f32 0x3F800000#32) (Ideal.ofBits .f32 0x00000000#32) = _
  rw [iota_single_apply, hs, fptosi_nat _ (by omega), Ideal.ofBits_one_f32, Ideal.ofBits_zero_f32]
  show Scalar.select (BitVec.ofBool ((BitVec.ofNat 32 r.val).slt (BitVec.ofNat 32 (total K)))) _ _ = _
  rw [slt_nat (by omega) (by omega), bit_select]
  by_cases h : r.val < total K
  · rw [if_pos h, ind_pos ((exists_iff K _).2 h)]
  · rw [if_neg h, ind_neg fun h' => h ((exists_iff K _).1 h')]

/-- The column of the largest class scores. -/
def bestCol (v1 : FVec Ideal S2048x18 .f32) (v : FVec Ideal S1x2048 .f32) : FVec Ideal S512x1 .f32 :=
  shapeCast S512x1 (multiReduction .maximumf [1] S512
    (extractStridedSlice S512x3 ![0, 7] (k0_pay61 v1 v (k0_pay60 v (k0_pay58 (F := Ideal)) (k0_pay59 v))) slices_S512x10_o0_7_S512x3)
    0xFF800000#32 reduces_S512x3_S512 (.inl rfl) rfl) shapeCasts_S512_S512x1

theorem bestCol_at (r : Fin 512) : bestCol v1 v (ix2 r (0 : Fin 1)) = Finset.univ.fold max (⊥ : EReal) fun k : Fin 3 =>
    k0_pay61 v1 v (k0_pay60 v (k0_pay58 (F := Ideal)) (k0_pay59 v)) (ix2 r (⟨7 + k.val, by omega⟩ : Fin 10)) := by
  unfold bestCol
  refine (shapeCast_apply _ _ (ix2 r (0 : Fin 1)) (ix1 r) ?_).trans ?_
  · rw [Shape.rowMajor_val_two]
    exact (Shape.rowMajor_val_one _).trans (by show r.val = r.val * 1 + 0; omega)
  · refine (rowMax _ reduces_S512x3_S512 (.inl rfl) rfl r).trans ?_
    refine congrArg (fun f : Fin 3 → EReal => Finset.univ.fold max (⊥ : EReal) f) (funext fun k => ?_)
    refine extractStridedSlice_apply _ _ _ _ _ fun a => ?_
    match a with
    | ⟨0, _⟩ => exact (Nat.zero_add _).symm
    | ⟨1, _⟩ => rfl

theorem pay63_eq : k0_pay63 v1 v (iota .tc S512x1 32 [0] iota_S512x1_d0_w32) (k0_pay60 v (k0_pay58 (F := Ideal)) (k0_pay59 v))
    = concatenate S512x8 1 [⟨S512x1, maskCol v⟩, ⟨S512x1, mulf (bestCol v1 v) (maskCol v)⟩,
        ⟨S512x6, (broadcast S512x6 (Scalar.ofBits (F := Ideal) .f32 0x00000000#32) : FVec Ideal S512x6 .f32)⟩]
        concatenates_S512x1_S512x1_S512x6_S512x8_d1 := rfl

end Tail

theorem third_0 (x y : S512x1.Idx → EReal) (z : S512x6.Idx → EReal) (r : Fin 512) :
    concatenate S512x8 1 [⟨S512x1, x⟩, ⟨S512x1, y⟩, ⟨S512x6, z⟩] concatenates_S512x1_S512x1_S512x6_S512x8_d1 (ix2 r (0 : Fin 8)) = x (ix2 r (0 : Fin 1)) := by
  refine concatenate_apply_piece (α := EReal) 1 [⟨S512x1, x⟩, ⟨S512x1, y⟩, ⟨S512x6, z⟩] concatenates_S512x1_S512x1_S512x6_S512x8_d1 (ix2 r (0 : Fin 8)) 0 (by simp) S512x1 x
    rfl rfl 0 rfl (ix2 r (0 : Fin 1)) (fun b hb => ?_) rfl
  match b with
  | ⟨0, _⟩ => rfl
  | ⟨1, _⟩ => exact absurd rfl hb

theorem third_1 (x y : S512x1.Idx → EReal) (z : S512x6.Idx → EReal) (r : Fin 512) :
    concatenate S512x8 1 [⟨S512x1, x⟩, ⟨S512x1, y⟩, ⟨S512x6, z⟩] concatenates_S512x1_S512x1_S512x6_S512x8_d1 (ix2 r (1 : Fin 8)) = y (ix2 r (0 : Fin 1)) := by
  refine concatenate_apply_piece (α := EReal) 1 [⟨S512x1, x⟩, ⟨S512x1, y⟩, ⟨S512x6, z⟩] concatenates_S512x1_S512x1_S512x6_S512x8_d1 (ix2 r (1 : Fin 8)) 1 (by simp) S512x1 y
    rfl rfl 1 rfl (ix2 r (0 : Fin 1)) (fun b hb => ?_) rfl
  match b with
  | ⟨0, _⟩ => rfl
  | ⟨1, _⟩ => exact absurd rfl hb

section Blocks

variable (x0 : Vec Ideal S1x2048x18 .f32) (x1 : Vec Ideal S1x8x2048 .f32)

/-- The first block at one of its ten columns. -/
theorem selBlock_at (r : Fin 512) (k : Fin 10) : (selBlock x0 x1 : Vec Ideal S1x512x16 .f32) (ix3 (0 : Fin 1) r (⟨k.val, by omega⟩ : Fin 16))
    = ∑ j : Fin 2048, ind (Kept x0 x1 j ∧ upTo (Kept x0 x1) j = r.val + 1) * inRow x0 j (⟨8 + k.val, by omega⟩ : Fin 18) := by
  unfold selBlock k0_pay62
  refine (shapeCast_apply _ _ _ (ix2 r (⟨k.val, by omega⟩ : Fin 16)) ?_).trans ?_
  · rw [Shape.rowMajor_val_two, Shape.rowMajor_val_three]
    show r.val * 16 + k.val = (0 * 512 + r.val) * 16 + k.val
    omega
  · refine (concatenate_pair_apply_left (α := EReal) 1 _ _ concatenates_S512x10_S512x6_S512x16_d1 (ix2 r (⟨k.val, by omega⟩ : Fin 16)) rfl (ix2 r k) (fun b => ?_)).trans ?_
    · match b with
      | ⟨0, _⟩ => rfl
      | ⟨1, _⟩ => rfl
    · refine (pay61_at (keptRow_row x0 x1) _ r k).trans (Finset.sum_congr rfl fun j _ => ?_)
      rw [pay5_apply]

theorem small_cast (w : FVec Ideal S512x8 .f32) (r : Fin 512) (k : Fin 8) : k0_pay1 w (ix3 (0 : Fin 1) r k) = w (ix2 r k) := by
  unfold k0_pay1
  refine shapeCast_apply _ _ _ (ix2 r k) ?_
  rw [Shape.rowMajor_val_two, Shape.rowMajor_val_three]
  show r.val * 8 + k.val = (0 * 512 + r.val) * 8 + k.val
  omega

/-- The second block's first column: the mask. -/
theorem small_mask (r : Fin 512) : (smallBlock x0 x1 : Vec Ideal S1x512x8 .f32) (ix3 (0 : Fin 1) r (0 : Fin 8))
    = ind (∃ j, Kept x0 x1 j ∧ upTo (Kept x0 x1) j = r.val + 1) := by
  unfold smallBlock
  rw [small_cast]
  unfold hot
  rw [pay63_eq]
  exact (third_0 _ _ _ r).trans (maskCol_at (keptRow_row x0 x1) r)

/-- The second block's second column: the largest class score of the slot, times the mask. -/
theorem small_best (r : Fin 512) : (smallBlock x0 x1 : Vec Ideal S1x512x8 .f32) (ix3 (0 : Fin 1) r (1 : Fin 8))
    = (Finset.univ.fold max (⊥ : EReal) fun k : Fin 3 =>
        ∑ j : Fin 2048, ind (Kept x0 x1 j ∧ upTo (Kept x0 x1) j = r.val + 1) * inRow x0 j (⟨15 + k.val, by omega⟩ : Fin 18))
      * ind (∃ j, Kept x0 x1 j ∧ upTo (Kept x0 x1) j = r.val + 1) := by
  unfold smallBlock
  rw [small_cast]
  unfold hot
  rw [pay63_eq]
  refine (third_1 _ _ _ r).trans ?_
  show bestCol (k0_pay5 x0) (keptRow x0 x1) (ix2 r (0 : Fin 1)) * maskCol (keptRow x0 x1) (ix2 r (0 : Fin 1)) = _
  rw [maskCol_at (keptRow_row x0 x1) r, bestCol_at]
  refine congrArg (fun f : Fin 3 → EReal => (Finset.univ.fold max (⊥ : EReal) f) * _) (funext fun k => ?_)
  refine (pay61_at (keptRow_row x0 x1) _ r _).trans (Finset.sum_congr rfl fun j _ => ?_)
  rw [pay5_apply]
  exact congrArg (fun q => _ * inRow x0 j q) (Fin.ext (by show 8 + (7 + k.val) = 15 + k.val; omega))

end Blocks

end Cert.Proof.Kern

end
-- ==== Proof.TopKRead.lean ====
/-
  The host's top-k of the rows of a two-axis array of extended reals: result `(b, r)` is the entry of row `b` that a
  stable sort, greater first, puts at place `r`, and its index is that entry's position.
-/
module

public import proofs.«01_k».proof.Proof.Order
public import Idealize.ShloMosaic.Lib.IdealHost
public import Idealize.ShloMosaic.Lib.ValueIdx
public import Idealize.ShloMosaic.Lib.Pipeline.Value

@[expose] public section

noncomputable section

namespace Cert.Proof

open Idealize.ShloMosaic Idealize.ShloMosaic.ValueIdx

variable {B N k : ℕ}

/-- In row `b`, entry `i` sorts before entry `j`: it is greater. -/
def sorts (x : (⟨2, ![B, N]⟩ : Shape).Idx → EReal) (b : Fin B) (i j : Fin N) : Bool :=
  (FloatOps.cmpfTotal (F := Ideal) (φ := .f32) .gt (x (ix2 b i)) (x (ix2 b j))) == 1#1

theorem sorts_iff (x : (⟨2, ![B, N]⟩ : Shape).Idx → EReal) (b : Fin B) (i j : Fin N) :
    sorts x b i j = true ↔ x (ix2 b j) < x (ix2 b i) := by
  unfold sorts
  rw [Ideal.cmpfTotal_def]
  show ((BitVec.ofBool (decide (x (ix2 b j) < x (ix2 b i)))) == 1#1) = true ↔ _
  by_cases h : x (ix2 b j) < x (ix2 b i) <;> simp [h]

/-- The position in row `b` that the sort puts at place `r`. -/
def from_ (x : (⟨2, ![B, N]⟩ : Shape).Idx → EReal) (b : Fin B) (r : Fin N) : Fin N := sortedFrom (sorts x b) r

theorem along_ix2 (b : Fin B) (j i : Fin N) :
    Shape.Idx.along (s := ⟨2, ![B, N]⟩) (ix2 b j) (1 : Fin 2) i = ix2 b i := by
  funext a
  unfold Shape.Idx.along
  fin_cases a
  · exact Function.update_of_ne (fun h => absurd (congrArg Fin.val h) (by decide : (0 : ℕ) ≠ 1)) _ _
  · exact Function.update_self _ _ _

theorem slice_ix2 {α : Type} (X : (⟨2, ![B, N]⟩ : Shape).Idx → α) (h : (⟨2, ![B, N]⟩ : Shape).Slices (fun _ => 0) ⟨2, ![B, k]⟩)
    (hk : k ≤ N) (b : Fin B) (r : Fin k) :
    extractStridedSlice ⟨2, ![B, k]⟩ (fun _ => 0) X h (ix2 b r) = X (ix2 b (Fin.castLE hk r)) := by
  refine extractStridedSlice_apply _ _ _ _ _ fun a => ?_
  fin_cases a <;> exact (Nat.zero_add _).symm

theorem along_row (b : Fin B) (j : Fin N) :
    (fun i : Fin N => Shape.Idx.along (s := ⟨2, ![B, N]⟩) (ix2 b j) (1 : Fin 2) i) = ix2 b :=
  funext fun i => along_ix2 b j i

theorem topK_values (x : (⟨2, ![B, N]⟩ : Shape).Idx → EReal)
    (h : (⟨2, ![B, N]⟩ : Shape).Slices (fun _ => 0) ⟨2, ![B, k]⟩) (hk : k ≤ N) (b : Fin B) (r : Fin k) :
    (Host.topK ⟨2, ![B, k]⟩ 1 (FloatOps.cmpfTotal (F := Ideal) (φ := .f32) .gt) x h).1 (ix2 b r)
      = x (ix2 b (from_ x b (Fin.castLE hk r))) := by
  dsimp only [Host.topK]
  refine (slice_ix2 _ h hk b r).trans ?_
  unfold Host.sort2
  rw [dif_pos (by decide : (1 : ℕ) < 2)]
  have e : ∀ g : Fin N → (⟨2, ![B, N]⟩ : Shape).Idx, g = ix2 b →
      x (g (sortedFrom (fun i j => FloatOps.cmpfTotal (F := Ideal) (φ := .f32) .gt (x (g i)) (x (g j)) == 1#1) (Fin.castLE hk r)))
        = x (ix2 b (from_ x b (Fin.castLE hk r))) := fun g hg => by subst hg; rfl
  exact e _ (along_row b (Fin.castLE hk r))

theorem topK_indices (x : (⟨2, ![B, N]⟩ : Shape).Idx → EReal)
    (h : (⟨2, ![B, N]⟩ : Shape).Slices (fun _ => 0) ⟨2, ![B, k]⟩) (hk : k ≤ N) (b : Fin B) (r : Fin k) :
    (Host.topK ⟨2, ![B, k]⟩ 1 (FloatOps.cmpfTotal (F := Ideal) (φ := .f32) .gt) x h).2 (ix2 b r)
      = BitVec.ofNat 32 (from_ x b (Fin.castLE hk r)).val := by
  dsimp only [Host.topK]
  refine (slice_ix2 _ h hk b r).trans ?_
  unfold Host.sort2
  rw [dif_pos (by decide : (1 : ℕ) < 2)]
  have e : ∀ g : Fin N → (⟨2, ![B, N]⟩ : Shape).Idx, g = ix2 b →
      (fun i => if hd : (1 : ℕ) < 2 then iotaInDim ⟨2, ![B, N]⟩ 32 ⟨1, hd⟩ i else 0#32)
          (g (sortedFrom (fun i j => FloatOps.cmpfTotal (F := Ideal) (φ := .f32) .gt (x (g i)) (x (g j)) == 1#1) (Fin.castLE hk r)))
        = BitVec.ofNat 32 (from_ x b (Fin.castLE hk r)).val := fun g hg => by
    subst hg
    dsimp only
    rw [dif_pos (by decide : (1 : ℕ) < 2), iotaInDim_apply]
    rfl
  exact e _ (along_row b (Fin.castLE hk r))

/-- Along a row the top values descend. -/
theorem topK_descends (x : (⟨2, ![B, N]⟩ : Shape).Idx → EReal) (b : Fin B) (i j : Fin N) (hij : i < j) :
    x (ix2 b (from_ x b j)) ≤ x (ix2 b (from_ x b i)) :=
  Order.sortedFrom_descends (fun i => x (ix2 b i)) (sorts x b) (sorts_iff x b) i j hij

end Cert.Proof

end
-- ==== Proof.Spec.lean ====
/-
  What both programs compute, written over the four arrays. A box's score is the largest of its class scores, or minus infinity
  when that is not above the threshold. The candidates of a batch are the 2048 best boxes in descending order. The greedy pass
  keeps a candidate that is valid and that no earlier kept candidate overlaps too much. Slot `r` holds the candidate that is the
  `r`-th one kept, counting from zero.
-/
module

public import proofs.«01_k».proof.Proof.TopKRead
public import proofs.«01_k».proof.Proof.Order
public import proofs.«01_k».proof.Proof.Greedy
public import proofs.«01_k».proof.Proof.Indicator
public import proofs.«01_k».proof.Proof.Boxes

@[expose] public section

noncomputable section

namespace Cert.Proof.Spec

open Idealize.ShloMosaic Idealize.ShloMosaic.ValueIdx Cert.Proof.Order Cert.Proof.Greedy
open Cert.Proof.Kern (thr iou)

abbrev Boxes := Vec Ideal ⟨3, ![4, 20000, 7]⟩ .f32
abbrev Classes := Vec Ideal ⟨3, ![4, 20000, 3]⟩ .f32

/-- Every class score is below infinity. -/
def Below (s : Classes) : Prop := ∀ i, s i < ⊤

/-- The facts about shapes the scores' expression asks for. -/
theorem red : (⟨3, ![4, 20000, 3]⟩ : Shape).ReducesTo [2] ⟨2, ![4, 20000]⟩ := by decide
theorem pos : 0 < (⟨0, ![]⟩ : Shape).numel := by decide
theorem bc : (⟨0, ![]⟩ : Shape).BroadcastsInDim ⟨2, ![4, 20000]⟩ (![] : Fin 0 → Fin 2) := by decide
theorem fits : 2048 ≤ 20000 := by decide
theorem fits' : 500 ≤ 2048 := by decide

/-- The largest class score of every box. -/
def best (s : Classes) : Vec Ideal ⟨2, ![4, 20000]⟩ .f32 :=
  Host.reduce (FloatOps.maximumf (F := Ideal) (φ := .f32)) s (constant (F := Ideal) ⟨0, ![]⟩ .f32 0xFF800000#32) red pos

/-- The score of every box: minus infinity where the largest class score is not above the threshold. -/
def masked (s : Classes) : Vec Ideal ⟨2, ![4, 20000]⟩ .f32 :=
  select (cmpf .ogt (best s) (broadcastInDim ⟨2, ![4, 20000]⟩ ![] bc (constant (F := Ideal) ⟨0, ![]⟩ .f32 0x3DCCCCCD#32))) (best s)
    (broadcastInDim ⟨2, ![4, 20000]⟩ ![] bc (constant (F := Ideal) ⟨0, ![]⟩ .f32 0xFF800000#32))

/-- The box that is candidate `r` of batch `b`. -/
def order (s : Classes) (b : Fin 4) (r : Fin 2048) : Fin 20000 := from_ (masked s) b (Fin.castLE fits r)

/-- The score of candidate `r`. -/
def top (s : Classes) (b : Fin 4) (r : Fin 2048) : EReal := masked s (ix2 b (order s b r))

/-- The scores of the candidates descend. -/
theorem top_descends (s : Classes) (b : Fin 4) (i j : Fin 2048) (hij : i < j) : top s b j ≤ top s b i :=
  topK_descends (masked s) b _ _ hij

/-- Candidate `i` comes before candidate `j` and overlaps it too much. -/
def sup (x : Boxes) (s : Classes) (b : Fin 4) (i j : Fin 2048) : Prop :=
  i < j ∧ thr < iou (x (ix3 b (order s b i) 0)) (x (ix3 b (order s b i) 1)) (x (ix3 b (order s b i) 3)) (x (ix3 b (order s b i) 4))
    (x (ix3 b (order s b j) 0)) (x (ix3 b (order s b j) 1)) (x (ix3 b (order s b j) 3)) (x (ix3 b (order s b j) 4))

/-- Candidate `j` is valid. -/
def valid (s : Classes) (b : Fin 4) (j : Fin 2048) : Prop := ⊥ < top s b j

/-- Candidate `j` is kept. -/
def kept (x : Boxes) (s : Classes) (b : Fin 4) (j : Fin 2048) : Prop := pass (valid s b) (sup x s b) 2048 j

/-- Slot `r` holds candidate `j`. -/
def picked (x : Boxes) (s : Classes) (b : Fin 4) (r : ℕ) (j : Fin 2048) : Prop :=
  kept x s b j ∧ upTo (kept x s b) j = r + 1

/-- A kept candidate is valid. -/
theorem kept_valid (x : Boxes) (s : Classes) (b : Fin 4) (j : Fin 2048) (h : kept x s b j) : ⊥ < top s b j := by
  have : ∀ m, pass (valid s b) (sup x s b) m j → valid s b j := fun m => by
    induction m with
    | zero => exact id
    | succ m ih => exact fun h => ih h.1
  exact this _ h

open Classical in
/-- The value slot `r` of batch `b` holds: `f` of the box it names, or zero where the slot is empty. -/
def slotted (x : Boxes) (s : Classes) (b : Fin 4) (r : ℕ) (f : Fin 20000 → EReal) : EReal :=
  if h : ∃ j, picked x s b r j then f (order s b h.choose) else 0

theorem slotted_pos (x : Boxes) (s : Classes) (b : Fin 4) (r : ℕ) (f : Fin 20000 → EReal) (j : Fin 2048) (hj : picked x s b r j) :
    slotted x s b r f = f (order s b j) := by
  have h : ∃ j, picked x s b r j := ⟨j, hj⟩
  unfold slotted
  rw [dif_pos h, upTo_inj _ h.choose_spec.1 hj.1 (h.choose_spec.2.trans hj.2.symm)]

theorem slotted_neg (x : Boxes) (s : Classes) (b : Fin 4) (r : ℕ) (f : Fin 20000 → EReal) (h : total (kept x s b) ≤ r) :
    slotted x s b r f = 0 := by
  unfold slotted
  refine dif_neg ?_
  rintro ⟨j, hj⟩
  have := upTo_le_total (kept x s b) j
  have := hj.2
  omega

/-- The four results over the arrays: boxes `a`, student's boxes `x`, student's class scores `s`, class scores `y`. -/
def rois (a x : Boxes) (s : Classes) : Vec Ideal ⟨3, ![4, 500, 7]⟩ .f32 :=
  fun i => slotted x s (i 0) (i 1).val fun n => a (ix3 (i 0) n (i 2))

def cls (x : Boxes) (s y : Classes) : Vec Ideal ⟨3, ![4, 500, 3]⟩ .f32 :=
  fun i => slotted x s (i 0) (i 1).val fun n => y (ix3 (i 0) n (i 2))

def mask (x : Boxes) (s : Classes) : Vec Ideal ⟨2, ![4, 500]⟩ .f32 :=
  fun i => slotted x s (i 0) (i 1).val fun _ => 1

/-- Row `q` of the last result belongs to batch `q / 500` and slot `q % 500`: the largest class score of the slot, times its mask. -/
def batchOf (q : Fin 2000) : Fin 4 := ⟨q.val / 500, by omega⟩
def slotOf (q : Fin 2000) : Fin 500 := ⟨q.val % 500, by omega⟩

theorem row_eq (q : Fin 2000) : q.val = (batchOf q).val * 500 + (slotOf q).val := by
  show q.val = q.val / 500 * 500 + q.val % 500
  omega

def kd (x : Boxes) (s y : Classes) : Vec Ideal ⟨2, ![2000, 1]⟩ .f32 :=
  fun i => (Finset.univ.fold max ⊥ fun k : Fin 3 => slotted x s (batchOf (i 0)) (slotOf (i 0)).val fun n => y (ix3 (batchOf (i 0)) n k))
    * slotted x s (batchOf (i 0)) (slotOf (i 0)).val fun _ => 1

/-- With every class score below infinity every score is. -/
theorem masked_lt (s : Classes) (hs : ∀ i, s i < ⊤) (i : (⟨2, ![4, 20000]⟩ : Shape).Idx) : masked s i < ⊤ := by
  have hb : best s i < ⊤ := by
    unfold best Host.reduce
    have : ∀ (l : List (Fin (⟨3, ![4, 20000, 3]⟩ : Shape).numel)) (a : EReal), a < ⊤ →
        List.foldl (fun a k => max a (s ((⟨3, ![4, 20000, 3]⟩ : Shape).rowMajor.symm k))) a l < ⊤ := by
      intro l
      induction l with
      | nil => exact fun a h => h
      | cons k l ih => exact fun a h => ih _ (max_lt h (hs _))
    refine this _ _ ?_
    show Ideal.ofBits .f32 0xFF800000#32 < ⊤
    rw [negInf_eq]; exact bot_lt_top
  unfold masked
  show Scalar.select _ (best s i) _ < ⊤
  unfold Scalar.select
  split
  · exact hb
  · show Ideal.ofBits .f32 0xFF800000#32 < ⊤
    rw [negInf_eq]; exact bot_lt_top

end Cert.Proof.Spec

end
-- ==== Proof.Take.lean ====
/-
  Taking entries along an axis by an array of positions, as the host programs spell it: a position below zero is moved up by the
  extent, a mask says whether the position is inside, and where it is not the result is a filler. For positions that are inside,
  the result is the entry at the position.
-/
module

public import Idealize.ShloMosaic.Lib.ValueIdx
public import Idealize.ShloMosaic.Lib.ReduceAll
public import Idealize.ShloMosaic.Lib.Pipeline.Value
public import Idealize.ShloMosaic.Lib.StableHlo.Predicate

@[expose] public section

noncomputable section

namespace Cert.Proof.Take

open Idealize.ShloMosaic Idealize.ShloMosaic.ValueIdx

variable {α : Type} {B N R C : ℕ}

/-- Dimension numbers of a take of rows: batch axis 0, position on axis 1, whole rows along axis 2. -/
abbrev rowsDims (B N R C : ℕ)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- Dimension numbers of a take of single entries: batch axis 0, position on axis 1. -/
abbrev entryDims (B N R : ℕ)
    (wf : GatherDims.WF ⟨2, ![B, N]⟩ ⟨3, ![B, R, 1]⟩ ⟨2, ![B, R]⟩ [] [1] [0] [1] [0] 2 ![1, 1]) :
    GatherDims ⟨2, ![B, N]⟩ ⟨3, ![B, R, 1]⟩ ⟨2, ![B, R]⟩ where
  offsetDims := []
  collapsedSliceDims := [1]
  operandBatchingDims := [0]
  startIndicesBatchingDims := [0]
  startIndexMap := [1]
  indexVectorDim := 2
  sliceSizes := ![1, 1]
  wf := wf

theorem rows_apply (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ 32) (b : Fin B) (r : Fin R) (c : Fin C) (p : Fin N)
    (hp : idx (ix3 b r (0 : Fin 1)) = BitVec.ofNat 32 p.val) (hN : N < 2 ^ 31) :
    Host.gather (rowsDims B N R C wf) x idx (ix3 b r c) = x (ix3 b p c) := by
  unfold Host.gather
  congr 1
  funext a
  refine Fin.ext ?_
  show (rowsDims B N R C wf).start (ix3 b r c) idx a + (rowsDims B N R C wf).batchCoord (ix3 b r c) a
      + (rowsDims B N R C wf).offCoord (ix3 b r c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims B N R C wf).startIndexMap from List.mem_singleton.mpr rfl)]
    have hsi : (rowsDims B N R C wf).siIdx (ix3 b r c) ⟨List.idxOf (1 : Fin 3) (rowsDims B N R C wf).startIndexMap,
        List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    rw [hsi, hp]
    show min (BitVec.ofNat 32 p.val).toInt.toNat (N - 1) = p.val
    have := p.isLt
    rw [StableHlo.Predicate.toInt_ofNat_small _ (by omega)]
    omega
  · rw [GatherDims.batchCoord_eq_zero _ _ _ (fun h => by simp at h)]
    have hs : (rowsDims B N R C wf).start (ix3 b r c) idx 2 = 0 := by
      unfold GatherDims.start
      rw [dif_neg (fun h => by simp at h)]
    rw [hs]
    simp only [Nat.zero_add, Nat.add_zero]
    unfold GatherDims.offCoord
    rw [dif_pos ((GatherDims.mem_sKept _ _).mpr ⟨fun h => by simp at h, fun h => by simp at h⟩)]
    rfl

theorem entries_apply (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ 32) (b : Fin B) (r : Fin R) (p : Fin N)
    (hp : idx (ix3 b r (0 : Fin 1)) = BitVec.ofNat 32 p.val) (hN : N < 2 ^ 31) :
    Host.gather (entryDims B N R wf) x idx (ix2 b r) = x (ix2 b p) := by
  unfold Host.gather
  congr 1
  funext a
  refine Fin.ext ?_
  show (entryDims B N R wf).start (ix2 b r) idx a + (entryDims B N R wf).batchCoord (ix2 b r) a
      + (entryDims B N R wf).offCoord (ix2 b r) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (entryDims B N R wf).startIndexMap from List.mem_singleton.mpr rfl)]
    have hsi : (entryDims B N R wf).siIdx (ix2 b r) ⟨List.idxOf (1 : Fin 2) (entryDims B N R wf).startIndexMap,
        List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    rw [hsi, hp]
    show min (BitVec.ofNat 32 p.val).toInt.toNat (N - 1) = p.val
    have := p.isLt
    rw [StableHlo.Predicate.toInt_ofNat_small _ (by omega)]
    omega

variable {T U : Shape}

/-- A position inside is not below zero: it is not moved. -/
theorem unmoved (idx z e : IVec T 32) (hz : ∀ i, z i = 0#32) (p : T.Idx → ℕ) (hp : ∀ i, idx i = BitVec.ofNat 32 (p i))
    (hlt : ∀ i, p i < 2 ^ 31) : select (cmpi .slt idx z) (addi idx e) idx = idx := by
  funext i
  show Scalar.select (IntOp.cmpi .slt (idx i) (z i)) _ (idx i) = idx i
  have hc : IntOp.cmpi .slt (idx i) (z i) = 0#1 := by
    show BitVec.ofBool ((idx i).slt (z i)) = 0#1
    have h1 : BitVec.slt (BitVec.ofNat 32 (p i)) 0#32 = false := by
      rw [BitVec.slt_eq_decide, StableHlo.Predicate.toInt_ofNat_small _ (hlt i)]
      exact decide_eq_false (by rw [show (0#32).toInt = 0 from rfl]; omega)
    rw [hz, hp, h1]
    rfl
  rw [hc]; rfl

/-- The mask of a position inside. -/
theorem inside (idx z t : IVec T 32) (M : ℕ) (hM : M < 2 ^ 31) (hz : ∀ i, z i = 0#32) (ht : ∀ i, t i = BitVec.ofNat 32 M)
    (p : T.Idx → ℕ) (hp : ∀ i, idx i = BitVec.ofNat 32 (p i)) (hlt : ∀ i, p i ≤ M) (i : T.Idx) :
    andi (cmpi .sge idx z) (cmpi .sle idx t) i = 1#1 := by
  show IntOp.andi (BitVec.ofBool ((z i).sle (idx i))) (BitVec.ofBool ((idx i).sle (t i))) = 1#1
  have := hlt i
  have e : (p i : ℤ) ≤ (M : ℤ) := by exact_mod_cast this
  have h1 : (BitVec.sle 0#32 (BitVec.ofNat 32 (p i))) = true := by
    rw [BitVec.sle_eq_decide, StableHlo.Predicate.toInt_ofNat_small _ (by omega)]
    exact decide_eq_true (by rw [StableHlo.Predicate.toInt_ofNat_small _ (by omega)]; omega)
  have h2 : (BitVec.sle (BitVec.ofNat 32 (p i)) (BitVec.ofNat 32 M)) = true := by
    rw [BitVec.sle_eq_decide, StableHlo.Predicate.toInt_ofNat_small _ (by omega), StableHlo.Predicate.toInt_ofNat_small _ hM]
    exact decide_eq_true e
  rw [hz, ht, hp, h1, h2]
  rfl

/-- The take of rows. -/
theorem take_rows (d : GatherDims ⟨3, ![B, N, C]⟩ ⟨3, ![B, R, 1]⟩ ⟨3, ![B, R, C]⟩)
    (wf : GatherDims.WF ⟨3, ![B, N, C]⟩ ⟨3, ![B, R, 1]⟩ ⟨3, ![B, R, C]⟩ [2] [1] [0] [1] [0] 2 ![1, 1, C])
    (hd : d = rowsDims B N R C wf)
    (x : (⟨3, ![B, N, C]⟩ : Shape).Idx → α) (idx z e z' t : IVec ⟨3, ![B, R, 1]⟩ 32)
    (one : IVec U 1) (fill : (⟨3, ![B, R, C]⟩ : Shape).Idx → α)
    (hr : (⟨3, ![B, R, 1]⟩ : Shape).ReducesTo [2] ⟨2, ![B, R]⟩) (hu : 0 < U.numel)
    (hb : (⟨2, ![B, R]⟩ : Shape).BroadcastsInDim ⟨3, ![B, R, C]⟩ ![0, 1])
    (p : Fin B → Fin R → Fin N) (hp : ∀ b r, idx (ix3 b r (0 : Fin 1)) = BitVec.ofNat 32 (p b r).val) (hN : N < 2 ^ 31)
    (hz : ∀ i, z i = 0#32) (hz' : ∀ i, z' i = 0#32) (ht : ∀ i, t i = BitVec.ofNat 32 (N - 1)) (ho : ∀ i, one i = 1#1)
    (b : Fin B) (r : Fin R) (c : Fin C) :
    select (broadcastInDim ⟨3, ![B, R, C]⟩ ![0, 1] hb (Host.reduce IntOp.andi
        (andi (cmpi .sge (select (cmpi .slt idx z) (addi idx e) idx) z') (cmpi .sle (select (cmpi .slt idx z) (addi idx e) idx) t))
        one hr hu)) (Host.gather d x (select (cmpi .slt idx z) (addi idx e) idx)) fill (ix3 b r c) = x (ix3 b (p b r) c) := by
  subst hd
  have hall : ∀ i : (⟨3, ![B, R, 1]⟩ : Shape).Idx, idx i = BitVec.ofNat 32 (p (i 0) (i 1)).val := fun i => by
    have e1 : i = ix3 (i 0) (i 1) (0 : Fin 1) := by
      refine (eq_ix3 i).trans ?_
      have : (i 2 : Fin 1) = (0 : Fin 1) := Fin.fin_one_eq_zero _
      exact congrArg (fun k : Fin 1 => ix3 (i 0) (i 1) k) this
    rw [e1]; exact hp _ _
  have hlt : ∀ i : (⟨3, ![B, R, 1]⟩ : Shape).Idx, (p (i 0) (i 1)).val < N := fun i => (p (i 0) (i 1)).isLt
  rw [unmoved idx z e hz _ hall fun i => (hlt i).trans hN]
  show Scalar.select _ _ _ = _
  have hm : broadcastInDim ⟨3, ![B, R, C]⟩ ![0, 1] hb (Host.reduce IntOp.andi (andi (cmpi .sge idx z') (cmpi .sle idx t)) one hr hu)
      (ix3 b r c) = 1#1 := by
    unfold broadcastInDim
    exact Host.reduce_andi_one _ _ hr hu _ (ho _) fun i => inside idx z' t (N - 1) (by omega) hz' ht _ hall
      (fun i => Nat.le_sub_one_of_lt (hlt i)) i
  rw [hm]
  exact rows_apply wf x idx b r c (p b r) (hp b r) hN

/-- The take of single entries, the positions already moved. -/
theorem take_entries (d : GatherDims ⟨2, ![B, N]⟩ ⟨3, ![B, R, 1]⟩ ⟨2, ![B, R]⟩)
    (wf : GatherDims.WF ⟨2, ![B, N]⟩ ⟨3, ![B, R, 1]⟩ ⟨2, ![B, R]⟩ [] [1] [0] [1] [0] 2 ![1, 1])
    (hd : d = entryDims B N R wf)
    (x : (⟨2, ![B, N]⟩ : Shape).Idx → α) (idx z' t : IVec ⟨3, ![B, R, 1]⟩ 32)
    (one : IVec U 1) (fill : (⟨2, ![B, R]⟩ : Shape).Idx → α)
    (hr : (⟨3, ![B, R, 1]⟩ : Shape).ReducesTo [2] ⟨2, ![B, R]⟩) (hu : 0 < U.numel)
    (p : Fin B → Fin R → Fin N) (hp : ∀ b r, idx (ix3 b r (0 : Fin 1)) = BitVec.ofNat 32 (p b r).val) (hN : N < 2 ^ 31)
    (hz' : ∀ i, z' i = 0#32) (ht : ∀ i, t i = BitVec.ofNat 32 (N - 1)) (ho : ∀ i, one i = 1#1) (b : Fin B) (r : Fin R) :
    select (Host.reduce IntOp.andi (andi (cmpi .sge idx z') (cmpi .sle idx t)) one hr hu)
      (Host.gather d x idx) fill (ix2 b r) = x (ix2 b (p b r)) := by
  subst hd
  have hall : ∀ i : (⟨3, ![B, R, 1]⟩ : Shape).Idx, idx i = BitVec.ofNat 32 (p (i 0) (i 1)).val := fun i => by
    have e1 : i = ix3 (i 0) (i 1) (0 : Fin 1) := by
      refine (eq_ix3 i).trans ?_
      have : (i 2 : Fin 1) = (0 : Fin 1) := Fin.fin_one_eq_zero _
      exact congrArg (fun k : Fin 1 => ix3 (i 0) (i 1) k) this
    rw [e1]; exact hp _ _
  have hlt : ∀ i : (⟨3, ![B, R, 1]⟩ : Shape).Idx, (p (i 0) (i 1)).val < N := fun i => (p (i 0) (i 1)).isLt
  show Scalar.select _ _ _ = _
  have hm : Host.reduce IntOp.andi (andi (cmpi .sge idx z') (cmpi .sle idx t)) one hr hu (ix2 b r) = 1#1 :=
    Host.reduce_andi_one _ _ hr hu _ (ho _) fun i => inside idx z' t (N - 1) (by omega) hz' ht _ hall
      (fun i => Nat.le_sub_one_of_lt (hlt i)) i
  rw [hm]
  exact entries_apply wf x idx b r (p b r) (hp b r) hN

end Cert.Proof.Take

end
-- ==== Proof.KHost.lean ====
/-
  The kernel's host operations before its grid: the candidates' rows and their transposed copy.
-/
module

public import proofs.«01_k».proof.Proof.Around
public import proofs.«01_k».proof.Proof.Spec
public import proofs.«01_k».proof.Proof.Take
public import Idealize.ShloMosaic.Lib.StableHlo.RunRead

@[expose] public section

set_option maxRecDepth 10000

noncomputable section

namespace Cert.Proof.Kern

open Cert.KernelIdeal Cert.KernelIdeal.Gen
open Idealize.ShloMosaic Idealize.ShloMosaic.TcCoe Idealize.SL.Sem
open Idealize.ShloMosaic.StableHlo Idealize.ShloMosaic.ValueIdx

abbrev Vals := Valuation τ sig (Elt Ideal)

variable (U : Vals)

/-- The rows the candidates are taken from: the student's box, the score, the box and the class scores. -/
theorem read_masked : after hostOps0_1 (after hostOps0 U) (Proc.devRef .tc main_v3)
    = (Spec.masked (U (Proc.devRef .tc main_arg2)) : Vec Ideal S4x20000 .f32) := by
  after_reads_simp
  unfold Spec.masked Spec.best
  simp -implicitDefEqProofs only [id, TRef.toBuf, TRef.ofBuf, cast_cast, cast_eq]

theorem read_indices : after hostOps0_2 U (Proc.devRef .tc main_indices)
    = ((Host.topK S4x2048 1 (FloatOps.cmpfTotal (F := Ideal) (φ := .f32) .gt) (U (Proc.devRef .tc main_v3)) sliceFits_S4x20000_S4x2048).2 :
      IVec S4x2048 32) := by
  after_reads_simp

theorem read_v6 : after hostOps0_2 U (Proc.devRef .tc main_v6)
    = (broadcastInDim S4x2048x1 ![0, 1] bcast_S4x2048_S4x2048x1_0_1
        ((Host.topK S4x2048 1 (FloatOps.cmpfTotal (F := Ideal) (φ := .f32) .gt) (U (Proc.devRef .tc main_v3)) sliceFits_S4x20000_S4x2048).2 :
      IVec S4x2048 32) : IVec S4x2048x1 32) := by
  after_reads_simp

theorem read_v5 : after hostOps0_2 U (Proc.devRef .tc main_v5)
    = (concatenate S4x20000x18 2 [⟨S4x20000x7, (U (Proc.devRef .tc main_arg1) : Vec Ideal S4x20000x7 .f32)⟩,
        ⟨S4x20000x1, (broadcastInDim S4x20000x1 ![0, 1] bcast_S4x20000_S4x20000x1_0_1 (U (Proc.devRef .tc main_v3) : Vec Ideal S4x20000 .f32))⟩,
        ⟨S4x20000x7, (U (Proc.devRef .tc main_arg0) : Vec Ideal S4x20000x7 .f32)⟩,
        ⟨S4x20000x3, (U (Proc.devRef .tc main_arg3) : Vec Ideal S4x20000x3 .f32)⟩]
        concatenates_S4x20000x7_S4x20000x1_S4x20000x7_S4x20000x3_S4x20000x18_d2 : Vec Ideal S4x20000x18 .f32) := by
  after_reads_simp
  rfl

/-- The taken rows. -/
theorem read_v7 (p : Fin 4 → Fin 2048 → Fin 20000)
    (hp : ∀ b r, (U (Proc.devRef .tc main_v6) : IVec S4x2048x1 32) (ix3 b r (0 : Fin 1)) = BitVec.ofNat 32 (p b r).val)
    (b : Fin 4) (r : Fin 2048) (k : Fin 18) :
    (after hostOps0_3 U (Proc.devRef .tc main_v7) : Vec Ideal S4x2048x18 .f32) (ix3 b r k)
      = (U (Proc.devRef .tc main_v5) : Vec Ideal S4x20000x18 .f32) (ix3 b (p b r) k) := by
  after_reads_simp
  exact Take.take_rows (U := S_) gather_S4x20000x18_S4x2048x1_S4x2048x18_2_1_0_0_1_2_1118
    gather_S4x20000x18_S4x2048x1_S4x2048x18_2_1_0_0_1_2_1118.wf rfl _ _ _ _ _ _ _ _ reducesTo_S4x2048x1_S4x2048_d2 h_S_ bcast_S4x2048_S4x2048x18_0_1
    p hp (by decide) (fun _ => rfl) (fun _ => rfl) (fun _ => rfl) (fun _ => rfl) b r k

/-- The transposed copy of the first eight columns. -/
theorem read_v9 (b : Fin 4) (k : Fin 8) (r : Fin 2048) :
    (after hostOps0_4 U (Proc.devRef .tc main_v9) : Vec Ideal S4x8x2048 .f32) (ix3 b k r)
      = (U (Proc.devRef .tc main_v7) : Vec Ideal S4x2048x18 .f32) (ix3 b r (⟨k.val, by omega⟩ : Fin 18)) := by
  after_reads_simp
  refine (show transpose S4x8x2048 [0, 2, 1] (extractStridedSlice S4x2048x8 ![0, 0, 0] (U (Proc.devRef .tc main_v7) : Vec Ideal S4x2048x18 .f32)
    slices_S4x2048x18_S4x2048x8_0_0_0) transposes_S4x2048x8_S4x8x2048_0_2_1 (ix3 b k r) = _ from ?_)
  refine (transpose_apply [0, 2, 1] _ _ (ix3 b k r) (ix3 b r k) fun a => ?_).trans ?_
  · match a with | ⟨0, _⟩ => rfl | ⟨1, _⟩ => rfl | ⟨2, _⟩ => rfl
  · refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm

/-! ## The stages -/

def uA : Vals := after hostOps0_1 (after hostOps0 U)
def uB : Vals := after hostOps0_2 (uA U)
def uC : Vals := after hostOps0_3 (uB U)
def uD : Vals := after hostOps0_4 (uC U)

theorem writesSub {ops : List (HloOp τ sig (Elt Ideal))} (r : Ref sig .tc)
    (h : ops.Forall fun op => Proc.devRef (τ := τ) .tc r ∉ op.writes) (W : Vals) :
    after ops W (Proc.devRef .tc r) = W (Proc.devRef .tc r) :=
  StableHlo.after_of_forall_not_mem (b := Proc.devRef .tc r) _ _ (List.forall_iff_forall_mem.mp h)

theorem uA_arg (r : Ref sig .tc) (hr : r ∈ [main_arg0, main_arg1, main_arg3]) : uA U (Proc.devRef .tc r) = U (Proc.devRef .tc r) := by
  unfold uA
  simp only [List.mem_cons, List.not_mem_nil, or_false] at hr
  rcases hr with rfl | rfl | rfl
  all_goals
    after_reads_simp

section Joined

variable (x0 : S4x20000x7.Idx → EReal) (x1 : S4x20000x1.Idx → EReal) (x2 : S4x20000x7.Idx → EReal) (x3 : S4x20000x3.Idx → EReal)
  (h : Shape.Concatenates [S4x20000x7, S4x20000x1, S4x20000x7, S4x20000x3] S4x20000x18 2) (b : Fin 4) (n : Fin 20000)

/-- The columns of the four arrays laid side by side. -/
def joined : S4x20000x18.Idx → EReal :=
  concatenate S4x20000x18 2 [⟨S4x20000x7, x0⟩, ⟨S4x20000x1, x1⟩, ⟨S4x20000x7, x2⟩, ⟨S4x20000x3, x3⟩] h

theorem joined_0 (k : Fin 7) : joined x0 x1 x2 x3 h (ix3 b n (⟨k.val, by omega⟩ : Fin 18)) = x0 (ix3 b n k) := by
  unfold joined
  refine concatenate_apply_piece 2 [⟨S4x20000x7, x0⟩, ⟨S4x20000x1, x1⟩, ⟨S4x20000x7, x2⟩, ⟨S4x20000x3, x3⟩] h _ 0 (by simp) S4x20000x7 x0 rfl rfl 0 rfl
    (ix3 b n k) (fun a ha => ?_) ?_
  · match a with
    | ⟨0, _⟩ => rfl
    | ⟨1, _⟩ => rfl
    | ⟨2, _⟩ => exact absurd rfl ha
  · exact Nat.zero_add _

theorem joined_1 (k : Fin 1) : joined x0 x1 x2 x3 h (ix3 b n (⟨7 + k.val, by omega⟩ : Fin 18)) = x1 (ix3 b n k) := by
  unfold joined
  refine concatenate_apply_piece 2 [⟨S4x20000x7, x0⟩, ⟨S4x20000x1, x1⟩, ⟨S4x20000x7, x2⟩, ⟨S4x20000x3, x3⟩] h _ 1 (by simp) S4x20000x1 x1 rfl rfl 7 rfl
    (ix3 b n k) (fun a ha => ?_) ?_
  · match a with
    | ⟨0, _⟩ => rfl
    | ⟨1, _⟩ => rfl
    | ⟨2, _⟩ => exact absurd rfl ha
  · rfl

theorem joined_2 (k : Fin 7) : joined x0 x1 x2 x3 h (ix3 b n (⟨8 + k.val, by omega⟩ : Fin 18)) = x2 (ix3 b n k) := by
  unfold joined
  refine concatenate_apply_piece 2 [⟨S4x20000x7, x0⟩, ⟨S4x20000x1, x1⟩, ⟨S4x20000x7, x2⟩, ⟨S4x20000x3, x3⟩] h _ 2 (by simp) S4x20000x7 x2 rfl rfl 8 rfl
    (ix3 b n k) (fun a ha => ?_) ?_
  · match a with
    | ⟨0, _⟩ => rfl
    | ⟨1, _⟩ => rfl
    | ⟨2, _⟩ => exact absurd rfl ha
  · rfl

theorem joined_3 (k : Fin 3) : joined x0 x1 x2 x3 h (ix3 b n (⟨15 + k.val, by omega⟩ : Fin 18)) = x3 (ix3 b n k) := by
  unfold joined
  refine concatenate_apply_piece 2 [⟨S4x20000x7, x0⟩, ⟨S4x20000x1, x1⟩, ⟨S4x20000x7, x2⟩, ⟨S4x20000x3, x3⟩] h _ 3 (by simp) S4x20000x3 x3 rfl rfl 15 rfl
    (ix3 b n k) (fun a ha => ?_) ?_
  · match a with
    | ⟨0, _⟩ => rfl
    | ⟨1, _⟩ => rfl
    | ⟨2, _⟩ => exact absurd rfl ha
  · rfl

end Joined

/-- A score repeated along a third axis of one. -/
theorem column_at (v : S4x20000.Idx → EReal) (b : Fin 4) (n : Fin 20000) :
    broadcastInDim S4x20000x1 ![0, 1] bcast_S4x20000_S4x20000x1_0_1 v (ix3 b n (0 : Fin 1)) = v (ix2 b n) :=
  broadcastInDim_apply ![0, 1] bcast_S4x20000_S4x20000x1_0_1 v _ (ix2 b n) (fun a => by match a with | ⟨0, _⟩ => rfl | ⟨1, _⟩ => rfl)

/-- The rows. -/
theorem rows_eq : (uB U (Proc.devRef .tc main_v5) : Vec Ideal S4x20000x18 .f32)
    = joined (U (Proc.devRef .tc main_arg1)) (broadcastInDim S4x20000x1 ![0, 1] bcast_S4x20000_S4x20000x1_0_1 (Spec.masked (U (Proc.devRef .tc main_arg2))))
        (U (Proc.devRef .tc main_arg0)) (U (Proc.devRef .tc main_arg3)) concatenates_S4x20000x7_S4x20000x1_S4x20000x7_S4x20000x3_S4x20000x18_d2 := by
  unfold uB joined
  rw [read_v5, uA_arg U main_arg0 (by decide), uA_arg U main_arg1 (by decide), uA_arg U main_arg3 (by decide)]
  unfold uA
  rw [read_masked]

/-- A candidate's row is the row of its box. -/
theorem row_at (b : Fin 4) (r : Fin 2048) (k : Fin 18) :
    (uC U (Proc.devRef .tc main_v7) : Vec Ideal S4x2048x18 .f32) (ix3 b r k)
      = (uB U (Proc.devRef .tc main_v5) : Vec Ideal S4x20000x18 .f32) (ix3 b (Spec.order (U (Proc.devRef .tc main_arg2)) b r) k) := by
  unfold uC
  refine read_v7 (uB U) (Spec.order (U (Proc.devRef .tc main_arg2))) (fun b r => ?_) b r k
  unfold uB
  rw [read_v6, broadcastInDim_apply _ _ _ _ (ix2 b r) (fun a => by match a with | ⟨0, _⟩ => rfl | ⟨1, _⟩ => rfl),
    topK_indices _ _ Spec.fits]
  unfold uA
  rw [read_masked]
  rfl

theorem rows_kept : uD U (Proc.devRef .tc main_v7) = uC U (Proc.devRef .tc main_v7) := by
  unfold uD
  after_reads_simp

theorem turned_at (b : Fin 4) (k : Fin 8) (r : Fin 2048) :
    (uD U (Proc.devRef .tc main_v9) : Vec Ideal S4x8x2048 .f32) (ix3 b k r)
      = (uC U (Proc.devRef .tc main_v7) : Vec Ideal S4x2048x18 .f32) (ix3 b r (⟨k.val, by omega⟩ : Fin 18)) := read_v9 (uC U) b k r

end Cert.Proof.Kern

end
-- ==== Proof.KBlocks.lean ====
/-
  The two blocks a turn of the grid reads, over the arguments: a batch's candidates.
-/
module

public import proofs.«01_k».proof.Proof.KHost
public import proofs.«01_k».proof.Proof.Turn
public import Idealize.ShloMosaic.Lib.Pipeline.ValueKit.Geometry

@[expose] public section

set_option maxRecDepth 10000

noncomputable section

namespace Cert.Proof.Kern

open Cert.KernelIdeal Cert.KernelIdeal.Gen
open Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The buffers a launch starts with, of one core. -/
abbrev u0 (c : Dev nD) : Vals := fun b => m (c, b)

/-- The four arguments of one core. -/
abbrev argA (c : Dev nD) : Spec.Boxes := m ((c.tc : Thread nD τ).loc main_arg0)
abbrev argX (c : Dev nD) : Spec.Boxes := m ((c.tc : Thread nD τ).loc main_arg1)
abbrev argS (c : Dev nD) : Spec.Classes := m ((c.tc : Thread nD τ).loc main_arg2)
abbrev argY (c : Dev nD) : Spec.Classes := m ((c.tc : Thread nD τ).loc main_arg3)

theorem V0_eq (c : Dev nD) : V0 m c = uD (u0 m c) := rfl

/-- The batch a turn of the grid takes. -/
def batch (t : Fin (cfg0 (F := Ideal)).N) : Fin 4 := ⟨t.val, by have := t.isLt; have e : (cfg0 (F := Ideal)).N = 4 := N_0; omega⟩

theorem idx0 : ∀ t : Fin (cfg0 (F := Ideal)).N, win0_0.index t = ![t.val, 0, 0] :=
  (by decide +kernel : ∀ t : Fin grid0.N, _)
theorem idx1 : ∀ t : Fin (cfg0 (F := Ideal)).N, win0_1.index t = ![t.val, 0, 0] :=
  (by decide +kernel : ∀ t : Fin grid0.N, _)

theorem blk0_at (c : Dev nD) (t : Fin (cfg0 (F := Ideal)).N) (r : Fin 2048) (k : Fin 18) :
    (iblk m c 0 t : Vec Ideal S1x2048x18 .f32) (ix3 (0 : Fin 1) r k)
      = (uD (u0 m c) (Proc.devRef .tc main_v7) : Vec Ideal S4x2048x18 .f32) (ix3 (batch t) r k) := by
  blk_simp [iblk, idx0]
  refine congrArg (V m c main_v7) (funext fun a => Fin.ext ?_)
  match a with
  | ⟨0, _⟩ => blk_simp [idx0]; simp [batch]
  | ⟨1, _⟩ => blk_simp [idx0]
  | ⟨2, _⟩ => blk_simp [idx0]

theorem blk1_at (c : Dev nD) (t : Fin (cfg0 (F := Ideal)).N) (k : Fin 8) (r : Fin 2048) :
    (iblk m c 1 t : Vec Ideal S1x8x2048 .f32) (ix3 (0 : Fin 1) k r)
      = (uD (u0 m c) (Proc.devRef .tc main_v9) : Vec Ideal S4x8x2048 .f32) (ix3 (batch t) k r) := by
  blk_simp [iblk, idx1]
  refine congrArg (V m c main_v9) (funext fun a => Fin.ext ?_)
  match a with
  | ⟨0, _⟩ => blk_simp [idx1]; simp [batch]
  | ⟨1, _⟩ => blk_simp [idx1]
  | ⟨2, _⟩ => blk_simp [idx1]

variable (c : Dev nD) (t : Fin (cfg0 (F := Ideal)).N)

/-- The row of candidate `r`. -/
theorem inRow_at (r : Fin 2048) (k : Fin 18) : inRow (iblk m c 0 t) r k
    = (uB (u0 m c) (Proc.devRef .tc main_v5) : Vec Ideal S4x20000x18 .f32) (ix3 (batch t) (Spec.order (argS m c) (batch t) r) k) := by
  unfold inRow
  rw [blk0_at, rows_kept, row_at]

theorem inCol_at (r : Fin 2048) (k : Fin 8) : inCol (iblk m c 1 t) r k
    = (uB (u0 m c) (Proc.devRef .tc main_v5) : Vec Ideal S4x20000x18 .f32)
        (ix3 (batch t) (Spec.order (argS m c) (batch t) r) (⟨k.val, by omega⟩ : Fin 18)) := by
  unfold inCol
  rw [blk1_at, turned_at, row_at]

theorem inRow_stu (r : Fin 2048) (k : Fin 7) : inRow (iblk m c 0 t) r ⟨k.val, by omega⟩
    = argX m c (ix3 (batch t) (Spec.order (argS m c) (batch t) r) k) := by
  rw [inRow_at, rows_eq]
  exact joined_0 _ _ _ _ _ _ _ k

theorem inCol_stu (r : Fin 2048) (k : Fin 7) : inCol (iblk m c 1 t) r ⟨k.val, by omega⟩
    = argX m c (ix3 (batch t) (Spec.order (argS m c) (batch t) r) k) := by
  rw [inCol_at, rows_eq]
  exact joined_0 _ _ _ _ _ _ _ k

theorem inCol_score (r : Fin 2048) : inCol (iblk m c 1 t) r 7 = Spec.top (argS m c) (batch t) r := by
  rw [inCol_at, rows_eq]
  exact (joined_1 _ _ _ _ _ _ _ (0 : Fin 1)).trans (column_at _ _ _)

theorem inRow_box (r : Fin 2048) (k : Fin 7) : inRow (iblk m c 0 t) r ⟨8 + k.val, by omega⟩
    = argA m c (ix3 (batch t) (Spec.order (argS m c) (batch t) r) k) := by
  rw [inRow_at, rows_eq]
  exact joined_2 _ _ _ _ _ _ _ k

theorem inRow_cls (r : Fin 2048) (k : Fin 3) : inRow (iblk m c 0 t) r ⟨15 + k.val, by omega⟩
    = argY m c (ix3 (batch t) (Spec.order (argS m c) (batch t) r) k) := by
  rw [inRow_at, rows_eq]
  exact joined_3 _ _ _ _ _ _ _ k

/-- The candidates the kernel keeps are the candidates of the specification. -/
theorem kept_at : Kept (iblk m c 0 t) (iblk m c 1 t) = Spec.kept (argX m c) (argS m c) (batch t) := by
  have hv : Valid (iblk m c 1 t) = Spec.valid (argS m c) (batch t) := by
    funext j
    unfold Valid Spec.valid
    rw [inCol_score]
  have hs : Sup (iblk m c 0 t) (iblk m c 1 t) = Spec.sup (argX m c) (argS m c) (batch t) := by
    funext i j
    unfold Sup Spec.sup
    rw [show inRow (iblk m c 0 t) i 0 = _ from inRow_stu m c t i 0, show inRow (iblk m c 0 t) i 1 = _ from inRow_stu m c t i 1,
      show inRow (iblk m c 0 t) i 3 = _ from inRow_stu m c t i 3, show inRow (iblk m c 0 t) i 4 = _ from inRow_stu m c t i 4,
      show inCol (iblk m c 1 t) j 0 = _ from inCol_stu m c t j 0, show inCol (iblk m c 1 t) j 1 = _ from inCol_stu m c t j 1,
      show inCol (iblk m c 1 t) j 3 = _ from inCol_stu m c t j 3, show inCol (iblk m c 1 t) j 4 = _ from inCol_stu m c t j 4]
  funext j
  unfold Kept Spec.kept
  rw [hv, hs]

end Cert.Proof.Kern

end
-- ==== Proof.KResult.lean ====
/-
  The kernel's four results: the two arrays of its grid, and the host's slices of them.
-/
module

public import proofs.«01_k».proof.Proof.KTail
public import proofs.«01_k».proof.Proof.KBlocks

@[expose] public section

set_option maxRecDepth 10000

noncomputable section

namespace Cert.Proof.Kern

open Cert.KernelIdeal Cert.KernelIdeal.Gen
open Idealize.ShloMosaic Idealize.ShloMosaic.TcCoe Idealize.SL.Sem
open Idealize.ShloMosaic.StableHlo Idealize.ShloMosaic.ValueIdx
open Cert.Proof.Order

variable (m : (ℓ : Loc nD τ sig) → Buf (Elt Ideal) ℓ) (ρ : Dev nD → PrngReg)

section Slots

variable (x : Spec.Boxes) (s : Spec.Classes) (b : Fin 4) (r : ℕ)

/-- The one-hot sum is what the slot holds. -/
theorem sum_slotted (f : Fin 20000 → EReal) :
    ∑ j : Fin 2048, ind (Spec.kept x s b j ∧ upTo (Spec.kept x s b) j = r + 1) * f (Spec.order s b j) = Spec.slotted x s b r f := by
  by_cases h : ∃ j, Spec.picked x s b r j
  · obtain ⟨j, hj⟩ := h
    rw [Spec.slotted_pos x s b r f j hj]
    exact sum_picked (Spec.kept x s b) r (fun j => f (Spec.order s b j)) j hj
  · unfold Spec.slotted
    rw [dif_neg h]
    exact sum_none (Spec.kept x s b) r (fun j => f (Spec.order s b j)) h

theorem ind_slotted : ind (∃ j, Spec.kept x s b j ∧ upTo (Spec.kept x s b) j = r + 1) = Spec.slotted x s b r fun _ => 1 := by
  by_cases h : ∃ j, Spec.picked x s b r j
  · obtain ⟨j, hj⟩ := h
    rw [Spec.slotted_pos x s b r _ j hj]
    exact ind_pos ⟨j, hj⟩
  · unfold Spec.slotted
    rw [dif_neg h]
    exact ind_neg h

end Slots

section Points

variable (c : Dev nD) (t : Fin (cfg0 (F := Ideal)).N)

theorem sel_box (r : Fin 512) (k : Fin 7) :
    (selBlock (iblk m c 0 t) (iblk m c 1 t) : Vec Ideal S1x512x16 .f32) (ix3 (0 : Fin 1) r (⟨k.val, by omega⟩ : Fin 16))
      = Spec.slotted (argX m c) (argS m c) (batch t) r.val fun n => argA m c (ix3 (batch t) n k) := by
  refine (selBlock_at _ _ r (⟨k.val, by omega⟩ : Fin 10)).trans ?_
  rw [kept_at]
  refine (Finset.sum_congr rfl fun j _ => ?_).trans (sum_slotted _ _ _ _ _)
  exact congrArg (_ * ·) (inRow_box m c t j k)

theorem sel_cls (r : Fin 512) (k : Fin 3) :
    (selBlock (iblk m c 0 t) (iblk m c 1 t) : Vec Ideal S1x512x16 .f32) (ix3 (0 : Fin 1) r (⟨7 + k.val, by omega⟩ : Fin 16))
      = Spec.slotted (argX m c) (argS m c) (batch t) r.val fun n => argY m c (ix3 (batch t) n k) := by
  refine (selBlock_at _ _ r (⟨7 + k.val, by omega⟩ : Fin 10)).trans ?_
  rw [kept_at]
  refine (Finset.sum_congr rfl fun j _ => ?_).trans (sum_slotted _ _ _ _ _)
  refine congrArg (_ * ·) ((congrArg (inRow (iblk m c 0 t) j) (Fin.ext ?_)).trans (inRow_cls m c t j k))
  show 8 + (7 + k.val) = 15 + k.val
  omega

theorem small_0 (r : Fin 512) :
    (smallBlock (iblk m c 0 t) (iblk m c 1 t) : Vec Ideal S1x512x8 .f32) (ix3 (0 : Fin 1) r (0 : Fin 8))
      = Spec.slotted (argX m c) (argS m c) (batch t) r.val fun _ => 1 := by
  rw [small_mask, kept_at]
  exact ind_slotted _ _ _ _

theorem small_1 (r : Fin 512) :
    (smallBlock (iblk m c 0 t) (iblk m c 1 t) : Vec Ideal S1x512x8 .f32) (ix3 (0 : Fin 1) r (1 : Fin 8))
      = (Finset.univ.fold max (⊥ : EReal) fun k : Fin 3 => Spec.slotted (argX m c) (argS m c) (batch t) r.val fun n => argY m c (ix3 (batch t) n k))
        * Spec.slotted (argX m c) (argS m c) (batch t) r.val fun _ => 1 := by
  rw [small_best, kept_at, ind_slotted]
  refine congrArg (fun f : Fin 3 → EReal => (Finset.univ.fold max (⊥ : EReal) f) * _) (funext fun k => ?_)
  refine (Finset.sum_congr rfl fun j _ => ?_).trans (sum_slotted _ _ _ _ _)
  exact congrArg (_ * ·) (inRow_cls m c t j k)

end Points

/-- The turn that takes a batch. -/
def turnOf (b : Fin 4) : Fin (cfg0 (F := Ideal)).N := ⟨b.val, by have e : (cfg0 (F := Ideal)).N = 4 := N_0; have := b.isLt; omega⟩

theorem batch_turnOf (b : Fin 4) : batch (turnOf b) = b := Fin.ext rfl

/-- The first array: the blocks side by side. -/
def sels (c : Dev nD) : Vec Ideal S4x512x16 .f32 := fun i =>
  (selBlock (iblk m c 0 (turnOf (i 0))) (iblk m c 1 (turnOf (i 0))) : Vec Ideal S1x512x16 .f32) (ix3 (0 : Fin 1) (i 1) (i 2))

/-- The second array. -/
def smalls (c : Dev nD) : Vec Ideal S4x512x8 .f32 := fun i =>
  (smallBlock (iblk m c 0 (turnOf (i 0))) (iblk m c 1 (turnOf (i 0))) : Vec Ideal S1x512x8 .f32) (ix3 (0 : Fin 1) (i 1) (i 2))

theorem idx2 : ∀ t : Fin (cfg0 (F := Ideal)).N, win0_2.index t = ![t.val, 0, 0] :=
  (by decide +kernel : ∀ t : Fin grid0.N, _)
theorem idx3 : ∀ t : Fin (cfg0 (F := Ideal)).N, win0_3.index t = ![t.val, 0, 0] :=
  (by decide +kernel : ∀ t : Fin grid0.N, _)

theorem sels_of (c : Dev nD) (t : Fin (cfg0 (F := Ideal)).N) (i : S4x512x16.Idx) (y : S1x512x16.Idx)
    (h0 : (i 0).val = t.val) (h1 : (i 1).val = (y 1).val) (h2 : (i 2).val = (y 2).val) :
    (selBlock (iblk m c 0 t) (iblk m c 1 t) : Vec Ideal S1x512x16 .f32) y = sels m c i := by
  have et : turnOf (i 0) = t := Fin.ext h0
  unfold sels
  rw [et]
  refine congrArg (selBlock (iblk m c 0 t) (iblk m c 1 t) : Vec Ideal S1x512x16 .f32) (funext fun a => ?_)
  match a with
  | ⟨0, _⟩ => exact Fin.fin_one_eq_zero (y 0)
  | ⟨1, _⟩ => exact Fin.ext h1.symm
  | ⟨2, _⟩ => exact Fin.ext h2.symm

theorem smalls_of (c : Dev nD) (t : Fin (cfg0 (F := Ideal)).N) (i : S4x512x8.Idx) (y : S1x512x8.Idx)
    (h0 : (i 0).val = t.val) (h1 : (i 1).val = (y 1).val) (h2 : (i 2).val = (y 2).val) :
    (smallBlock (iblk m c 0 t) (iblk m c 1 t) : Vec Ideal S1x512x8 .f32) y = smalls m c i := by
  have et : turnOf (i 0) = t := Fin.ext h0
  unfold smalls
  rw [et]
  refine congrArg (smallBlock (iblk m c 0 t) (iblk m c 1 t) : Vec Ideal S1x512x8 .f32) (funext fun a => ?_)
  match a with
  | ⟨0, _⟩ => exact Fin.fin_one_eq_zero (y 0)
  | ⟨1, _⟩ => exact Fin.ext h1.symm
  | ⟨2, _⟩ => exact Fin.ext h2.symm

theorem final_2 (c : Dev nD) : (dats m 0 c).arrAt 2 (cfg0 (F := Ideal)).N = sels m c := by
  refine (dats m 0 c).arrAt_eq_of_covers 2 _ (by decide +kernel) fun t hf y => ?_
  blk_simp
  rw [after0_2]
  refine sels_of m c t _ y ?_ ?_ ?_
  · blk_simp [idx2]
  · blk_simp [idx2]
  · blk_simp [idx2]

theorem final_3 (c : Dev nD) : (dats m 0 c).arrAt 3 (cfg0 (F := Ideal)).N = smalls m c := by
  refine (dats m 0 c).arrAt_eq_of_covers 3 _ (by decide +kernel) fun t hf y => ?_
  blk_simp
  rw [after0_3]
  refine smalls_of m c t _ y ?_ ?_ ?_
  · blk_simp [idx3]
  · blk_simp [idx3]
  · blk_simp [idx3]

section Tail

variable (U : Vals)

theorem read_v11 : after hostOps1 U (Proc.devRef .tc main_v11)
    = (extractStridedSlice S4x500x7 ![0, 0, 0] (U (Proc.devRef .tc main_v10_0) : Vec Ideal S4x512x16 .f32) slices_S4x512x16_S4x500x7_0_0_0 : Vec Ideal S4x500x7 .f32) := by
  after_reads_simp

theorem read_v12 : after hostOps1 U (Proc.devRef .tc main_v12)
    = (extractStridedSlice S4x500x3 ![0, 0, 7] (U (Proc.devRef .tc main_v10_0) : Vec Ideal S4x512x16 .f32) slices_S4x512x16_S4x500x3_0_0_7 : Vec Ideal S4x500x3 .f32) := by
  after_reads_simp

theorem read_v14 (b : Fin 4) (r : Fin 500) : (after hostOps1 U (Proc.devRef .tc main_v14) : Vec Ideal S4x500 .f32) (ix2 b r)
    = (U (Proc.devRef .tc main_v10_1) : Vec Ideal S4x512x8 .f32) (ix3 b (⟨r.val, by omega⟩ : Fin 512) (0 : Fin 8)) := by
  after_reads_simp
  refine (shapeCast_apply _ _ (ix2 b r) (ix3 b r (0 : Fin 1)) ?_).trans ?_
  · rw [Shape.rowMajor_val_two, Shape.rowMajor_val_three]
    show (b.val * 500 + r.val) * 1 + 0 = b.val * 500 + r.val
    omega
  · refine extractStridedSlice_apply _ _ _ _ _ fun a => ?_
    match a with
    | ⟨0, _⟩ => exact (Nat.zero_add _).symm
    | ⟨1, _⟩ => exact (Nat.zero_add _).symm
    | ⟨2, _⟩ => rfl

theorem read_v17 (b : Fin 4) (r : Fin 500) (q : Fin 2000) (hq : q.val = b.val * 500 + r.val) :
    (after hostOps1 U (Proc.devRef .tc main_v17) : Vec Ideal S2000x1 .f32) (ix2 q (0 : Fin 1))
    = (U (Proc.devRef .tc main_v10_1) : Vec Ideal S4x512x8 .f32) (ix3 b (⟨r.val, by omega⟩ : Fin 512) (1 : Fin 8)) := by
  after_reads_simp
  refine (shapeCast_apply _ _ (ix2 q (0 : Fin 1)) (ix2 b r) ?_).trans ?_
  · rw [Shape.rowMajor_val_two, Shape.rowMajor_val_two]
    show b.val * 500 + r.val = q.val * 1 + 0
    omega
  · refine (shapeCast_apply _ _ (ix2 b r) (ix3 b r (0 : Fin 1)) ?_).trans ?_
    · rw [Shape.rowMajor_val_two, Shape.rowMajor_val_three]
      show (b.val * 500 + r.val) * 1 + 0 = b.val * 500 + r.val
      omega
    · refine extractStridedSlice_apply _ _ _ _ _ fun a => ?_
      match a with
      | ⟨0, _⟩ => exact (Nat.zero_add _).symm
      | ⟨1, _⟩ => exact (Nat.zero_add _).symm
      | ⟨2, _⟩ => rfl

end Tail

section Results

variable (c : Dev nD)

/-- What the host's last operations start with. -/
abbrev uT : Vals := Pipeline.withArrays (cfgs (F := Ideal) 0).spec c (V0 m c) (fun w => (dats m 0 c).arrAt w (cfgs (F := Ideal) 0).N)

theorem tail_eq (b : Ref sig .tc) : Pipeline.afterTail₀ (cfgs (F := Ideal)) (dats m) 0 (V0 m) [hostOps1] c b = after hostOps1 (uT m c) (Proc.devRef .tc b) := by
  unfold Pipeline.afterTail₀
  rw [List.flatten_singleton]

theorem arrs_inj : Function.Injective (Pipeline.arrRef spec0) := by decide

theorem uT_2 : uT m c (Proc.devRef .tc main_v10_0) = (sels m c : Vec Ideal S4x512x16 .f32) :=
  (Pipeline.withArrays_arr _ arrs_inj c (V0 m c) _ 2).trans (final_2 m c)

theorem uT_3 : uT m c (Proc.devRef .tc main_v10_1) = (smalls m c : Vec Ideal S4x512x8 .f32) :=
  (Pipeline.withArrays_arr _ arrs_inj c (V0 m c) _ 3).trans (final_3 m c)

theorem res_rois : Pipeline.afterTail₀ (cfgs (F := Ideal)) (dats m) 0 (V0 m) [hostOps1] c main_v11
    = (Spec.rois (argA m c) (argX m c) (argS m c) : Vec Ideal S4x500x7 .f32) := by
  rw [tail_eq, read_v11, uT_2]
  funext i
  rw [ValueIdx.eq_ix3 i]
  refine (extractStridedSlice_apply _ _ _ _ (ix3 (i 0) (⟨(i 1).val, by have : (i 1).val < 500 := (i 1).isLt; omega⟩ : Fin 512)
    (⟨(i 2).val, by have : (i 2).val < 7 := (i 2).isLt; omega⟩ : Fin 16)) fun a => ?_).trans ?_
  · match a with
    | ⟨0, _⟩ => exact (Nat.zero_add _).symm
    | ⟨1, _⟩ => exact (Nat.zero_add _).symm
    | ⟨2, _⟩ => exact (Nat.zero_add _).symm
  · refine (sel_box m c (turnOf (i 0)) _ (i 2)).trans ?_
    rfl

theorem res_cls : Pipeline.afterTail₀ (cfgs (F := Ideal)) (dats m) 0 (V0 m) [hostOps1] c main_v12
    = (Spec.cls (argX m c) (argS m c) (argY m c) : Vec Ideal S4x500x3 .f32) := by
  rw [tail_eq, read_v12, uT_2]
  funext i
  rw [ValueIdx.eq_ix3 i]
  refine (extractStridedSlice_apply _ _ _ _ (ix3 (i 0) (⟨(i 1).val, by have : (i 1).val < 500 := (i 1).isLt; omega⟩ : Fin 512)
    (⟨7 + (i 2).val, by have : (i 2).val < 3 := (i 2).isLt; omega⟩ : Fin 16)) fun a => ?_).trans ?_
  · match a with
    | ⟨0, _⟩ => exact (Nat.zero_add _).symm
    | ⟨1, _⟩ => exact (Nat.zero_add _).symm
    | ⟨2, _⟩ => rfl
  · refine (sel_cls m c (turnOf (i 0)) _ (i 2)).trans ?_
    rfl

theorem res_mask : Pipeline.afterTail₀ (cfgs (F := Ideal)) (dats m) 0 (V0 m) [hostOps1] c main_v14
    = (Spec.mask (argX m c) (argS m c) : Vec Ideal S4x500 .f32) := by
  rw [tail_eq]
  funext i
  refine (congrArg (after hostOps1 (uT m c) (Proc.devRef .tc main_v14) : Vec Ideal S4x500 .f32) (ValueIdx.eq_ix2 i)).trans ?_
  refine (read_v14 (uT m c) (i 0) (i 1)).trans ?_
  rw [uT_3]
  refine (small_0 m c (turnOf (i 0)) _).trans ?_
  rfl

theorem res_kd : Pipeline.afterTail₀ (cfgs (F := Ideal)) (dats m) 0 (V0 m) [hostOps1] c main_v17
    = (Spec.kd (argX m c) (argS m c) (argY m c) : Vec Ideal S2000x1 .f32) := by
  rw [tail_eq]
  funext i
  have ei : i = ix2 (i 0) (0 : Fin 1) := (ValueIdx.eq_ix2 i).trans (congrArg (ix2 (i 0)) (Fin.fin_one_eq_zero (i 1)))
  refine (congrArg (after hostOps1 (uT m c) (Proc.devRef .tc main_v17) : Vec Ideal S2000x1 .f32) ei).trans ?_
  refine (read_v17 (uT m c) (Spec.batchOf (i 0)) (Spec.slotOf (i 0)) (i 0) (Spec.row_eq (i 0))).trans ?_
  rw [uT_3]
  refine (small_1 m c (turnOf (Spec.batchOf (i 0))) _).trans ?_
  rfl

end Results

/-- A run of the kernel ends with the four results of the specification, its arguments unchanged. -/
theorem run_values :
    θ_run defs (onTc (τ := τ) (main (F := Ideal))) ⟨m, fun _ => 0, ρ⟩ (fun r => ∀ c : Dev nD,
      r.2.mem ((c.tc : Thread nD τ).loc main_v11) = Spec.rois (argA m c) (argX m c) (argS m c)
      ∧ r.2.mem ((c.tc : Thread nD τ).loc main_v12) = Spec.cls (argX m c) (argS m c) (argY m c)
      ∧ r.2.mem ((c.tc : Thread nD τ).loc main_v14) = Spec.mask (argX m c) (argS m c)
      ∧ r.2.mem ((c.tc : Thread nD τ).loc main_v17) = Spec.kd (argX m c) (argS m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v11 (Pipeline.mem_restRefs_of (win := spec0) main_v11 (by decide) (by decide))).trans (res_rois m c),
      ((h c).2 main_v12 (Pipeline.mem_restRefs_of (win := spec0) main_v12 (by decide) (by decide))).trans (res_cls m c),
      ((h c).2 main_v14 (Pipeline.mem_restRefs_of (win := spec0) main_v14 (by decide) (by decide))).trans (res_mask m c),
      ((h c).2 main_v17 (Pipeline.mem_restRefs_of (win := spec0) main_v17 (by decide) (by decide))).trans (res_kd m c),
      ((h c).2 main_arg0 (Pipeline.mem_restRefs_of (win := spec0) main_arg0 (by decide) (by decide))).trans (W_main_arg0 m (dats m) c),
      ((h c).2 main_arg1 (Pipeline.mem_restRefs_of (win := spec0) main_arg1 (by decide) (by decide))).trans (W_main_arg1 m (dats m) c),
      ((h c).2 main_arg2 (Pipeline.mem_restRefs_of (win := spec0) main_arg2 (by decide) (by decide))).trans (W_main_arg2 m (dats m) c),
      ((h c).2 main_arg3 (Pipeline.mem_restRefs_of (win := spec0) main_arg3 (by decide) (by decide))).trans (W_main_arg3 m (dats m) c)⟩)
    (run_main m ρ fun _ _ => halts _ _)

end Cert.Proof.Kern

end
-- ==== Proof.RefRun.lean ====
/-
  The reference's run: which buffers each stretch of its host operations leaves alone, and that the
  program ends with its arguments unchanged and every semaphore at zero.
-/
module

public import proofs.«01_k».proof.Proof.Gen.ReferenceIdeal.Run
public import Idealize.ShloMosaic.Lib.Quiescent

@[expose] public section

set_option maxRecDepth 10000

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- A stretch writes only buffers of the list `W`. -/
def WritesIn (ops : List (HloOp τ sig (Elt F))) (W : List (Ref sig .tc)) : Prop :=
  ops.Forall fun op => op.writes ⊆ (W.map (Proc.devRef (τ := τ) .tc)).toFinset

/-- A buffer that none of the stretches writes keeps its contents through all of them. -/
theorem keep {L : List (List (HloOp τ sig (Elt F)))} {Ws : List (List (Ref sig .tc))}
    (h : List.Forall₂ WritesIn L Ws) (V : Valuation τ sig (Elt F)) (r : Ref sig .tc) (hr : ∀ W ∈ Ws, r ∉ W) :
    afterL L V (Proc.devRef .tc r) = V (Proc.devRef .tc r) := by
  induction h generalizing V with
  | nil => rfl
  | @cons ops W L Ws ho _ ih =>
    rw [afterL_cons, ih _ fun W' h' => hr W' (List.mem_cons_of_mem _ h')]
    exact after_of_writes_sub ops V ho (hr W List.mem_cons_self)

/-- The buffers stretch 9 writes. -/
abbrev w9 : List (Ref sig .tc) := [main_cst_12]
theorem writes9 : WritesIn (hostOps0_9 : List (HloOp τ sig (Elt F))) w9 := StableHlo.forall_writes_sub_of_map rfl
/-- The buffers stretch 10 writes. -/
abbrev w10 : List (Ref sig .tc) := [main_call5_v0, main_call5_v1, main_v78]
theorem writes10 : WritesIn (hostOps0_10 : List (HloOp τ sig (Elt F))) w10 := StableHlo.forall_writes_sub_of_map rfl
/-- The buffers stretch 11 writes. -/
abbrev w11 : List (Ref sig .tc) := [main_values_13, main_indices_14]
theorem writes11 : WritesIn (hostOps0_11 : List (HloOp τ sig (Elt F))) w11 := StableHlo.forall_writes_sub_of_map rfl
/-- The buffers stretch 12 writes. -/
abbrev w12 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_c_4, main_call6_v14, main_v79]
theorem writes12 : WritesIn (hostOps0_12 : List (HloOp τ sig (Elt F))) w12 := StableHlo.forall_writes_sub_of_map rfl
/-- The buffers stretch 13 writes. -/
abbrev w13 : List (Ref sig .tc) := [main_cst_15, main_v80, main_v81, main_cst_16, main_v82, main_v83, main_v84, main_c_17]
theorem writes13 : WritesIn (hostOps0_13 : List (HloOp τ sig (Elt F))) w13 := StableHlo.forall_writes_sub_of_map rfl
/-- The buffers stretch 14 writes. -/
abbrev w14 : List (Ref sig .tc) := [main_call7_v0, main_call7_v1, main_v85]
theorem writes14 : WritesIn (hostOps0_14 : List (HloOp τ sig (Elt F))) w14 := StableHlo.forall_writes_sub_of_map rfl
/-- The buffers stretch 15 writes. -/
abbrev w15 : List (Ref sig .tc) := [main_v86, main_v87]
theorem writes15 : WritesIn (hostOps0_15 : List (HloOp τ sig (Elt F))) w15 := StableHlo.forall_writes_sub_of_map rfl
/-- The buffers stretch 16 writes. -/
abbrev w16 : List (Ref sig .tc) := [main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v88]
theorem writes16 : WritesIn (hostOps0_16 : List (HloOp τ sig (Elt F))) w16 := StableHlo.forall_writes_sub_of_map rfl
/-- The buffers stretch 17 writes. -/
abbrev w17 : List (Ref sig .tc) := [main_cst_18]
theorem writes17 : WritesIn (hostOps0_17 : List (HloOp τ sig (Elt F))) w17 := StableHlo.forall_writes_sub_of_map rfl
/-- The buffers stretch 18 writes. -/
abbrev w18 : List (Ref sig .tc) := [main_call9_v0, main_call9_v1, main_call9_v2, main_v89]
theorem writes18 : WritesIn (hostOps0_18 : List (HloOp τ sig (Elt F))) w18 := StableHlo.forall_writes_sub_of_map rfl
/-- The buffers stretch 19 writes. -/
abbrev w19 : List (Ref sig .tc) := [main_v90]
theorem writes19 : WritesIn (hostOps0_19 : List (HloOp τ sig (Elt F))) w19 := StableHlo.forall_writes_sub_of_map rfl
/-- The buffers stretch 20 writes. -/
abbrev w20 : List (Ref sig .tc) := [main_call10_c, main_call10_v0, main_call10_v1, main_call10_c_0, main_call10_v2, main_call10_v3, main_call10_v4, main_call10_c_1, main_call10_c_2, main_call10_v5, main_call10_v6, main_call10_v7, main_call10_v8, main_call10_v9, main_call10_v10, main_call10_c_3, main_call10_v11, main_call10_v12, main_call10_v13, main_call10_cst, main_call10_v14, main_v91]
theorem writes20 : WritesIn (hostOps0_20 : List (HloOp τ sig (Elt F))) w20 := StableHlo.forall_writes_sub_of_map rfl
/-- The buffers stretch 21 writes. -/
abbrev w21 : List (Ref sig .tc) := [main_cst_19]
theorem writes21 : WritesIn (hostOps0_21 : List (HloOp τ sig (Elt F))) w21 := StableHlo.forall_writes_sub_of_map rfl
/-- The buffers stretch 22 writes. -/
abbrev w22 : List (Ref sig .tc) := [main_call11_v0, main_call11_v1, main_call11_v2, main_v92]
theorem writes22 : WritesIn (hostOps0_22 : List (HloOp τ sig (Elt F))) w22 := StableHlo.forall_writes_sub_of_map rfl
/-- The buffers stretch 23 writes. -/
abbrev w23 : List (Ref sig .tc) := [main_v93, main_v94, main_cst_20, main_v95, main_v96, main_v97, main_v98]
theorem writes23 : WritesIn (hostOps0_23 : List (HloOp τ sig (Elt F))) w23 := StableHlo.forall_writes_sub_of_map rfl

/-- What the stretches before the loop write. -/
abbrev wPre : List (List (Ref sig .tc)) := [hostOps0_W, hostOps0_1_W, hostOps0_2_W, hostOps0_3_W, hostOps0_4_W, hostOps0_5_W, hostOps0_6_W, hostOps0_7_W, hostOps0_8_W]
theorem writesPre : List.Forall₂ WritesIn (preI (F := F)) wPre := .cons hostOps0_writes (.cons hostOps0_1_writes (.cons hostOps0_2_writes (.cons hostOps0_3_writes (.cons hostOps0_4_writes (.cons hostOps0_5_writes (.cons hostOps0_6_writes (.cons hostOps0_7_writes (.cons hostOps0_8_writes .nil))))))))
/-- What the loop's body writes. -/
abbrev wBody : List (List (Ref sig .tc)) := [while0Ops0_W, while0Ops0_1_W, while0Ops0_2_W]
theorem writesBody : List.Forall₂ WritesIn (bodyI (F := F)) wBody := .cons while0Ops0_writes (.cons while0Ops0_1_writes (.cons while0Ops0_2_writes .nil))
/-- What the stretches after the loop write. -/
abbrev wPost : List (List (Ref sig .tc)) := [w9, w10, w11, w12, w13, w14, w15, w16, w17, w18, w19, w20, w21, w22, w23]
theorem writesPost : List.Forall₂ WritesIn (postI (F := F)) wPost := .cons writes9 (.cons writes10 (.cons writes11 (.cons writes12 (.cons writes13 (.cons writes14 (.cons writes15 (.cons writes16 (.cons writes17 (.cons writes18 (.cons writes19 (.cons writes20 (.cons writes21 (.cons writes22 (.cons writes23 .nil))))))))))))))

variable (m : (ℓ : Loc nD τ sig) → Buf (Elt F) ℓ) (ρ : Dev nD → PrngReg)

/-- A buffer the body and the condition leave alone is after any number of trips as it was at the loop's entry. -/
theorem keepTrips (c : Dev nD) (r : Ref sig .tc) (hb : ∀ W ∈ wBody, r ∉ W) (hc : r ∉ condOps_W) (k : ℕ) :
    atK m k c (Proc.devRef .tc r) = entryContents preI m c (Proc.devRef .tc r) := by
  induction k with
  | zero => rfl
  | succ k ih =>
    rw [show atK m (k + 1) c = afterL bodyI (after condOps (atK m k c)) from rfl, keep writesBody _ r hb,
      after_of_writes_sub condOps _ condOps_writes hc, ih]

/-- The buffers when the loop has ended. -/
def ended (c : Dev nD) : Valuation τ sig (Elt F) := after condOps (atK m 2048 c)

/-- A buffer the loop leaves alone, when the loop has ended. -/
theorem ended_keep (c : Dev nD) (r : Ref sig .tc) (hb : ∀ W ∈ wBody, r ∉ W) (hc : r ∉ condOps_W) :
    ended m c (Proc.devRef .tc r) = entryContents preI m c (Proc.devRef .tc r) := by
  unfold ended
  rw [after_of_writes_sub condOps _ condOps_writes hc, keepTrips m c r hb hc]

/-- A buffer no operation writes ends as it was. -/
theorem final_keep (c : Dev nD) (r : Ref sig .tc) (ha : ∀ W ∈ wPre, r ∉ W) (hb : ∀ W ∈ wBody, r ∉ W)
    (hc : r ∉ condOps_W) (hp : ∀ W ∈ wPost, r ∉ W) :
    finalContents condOps preI bodyI postI 2048 m c (Proc.devRef .tc r) = m ((c.tc : Thread nD τ).loc r) := by
  rw [show finalContents condOps preI bodyI postI 2048 m c = afterL postI (ended m c) from rfl,
    keep writesPost _ r hp, ended_keep m c r hb hc]
  exact keep writesPre _ r ha

/-- The arguments after the run. -/
theorem final_args (c : Dev nD) :
    finalContents condOps preI bodyI postI 2048 m c (Proc.devRef .tc main_arg0) = m ((c.tc : Thread nD τ).loc main_arg0)
    ∧ finalContents condOps preI bodyI postI 2048 m c (Proc.devRef .tc main_arg1) = m ((c.tc : Thread nD τ).loc main_arg1)
    ∧ finalContents condOps preI bodyI postI 2048 m c (Proc.devRef .tc main_arg2) = m ((c.tc : Thread nD τ).loc main_arg2)
    ∧ finalContents condOps preI bodyI postI 2048 m c (Proc.devRef .tc main_arg3) = m ((c.tc : Thread nD τ).loc main_arg3) :=
  ⟨final_keep m c _ (by decide) (by decide) (by decide) (by decide), final_keep m c _ (by decide) (by decide) (by decide) (by decide),
    final_keep m c _ (by decide) (by decide) (by decide) (by decide), final_keep m c _ (by decide) (by decide) (by decide) (by decide)⟩

/-- The reference ends, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h c main_arg0 rfl).trans (final_args m c).1, (h c main_arg1 rfl).trans (final_args m c).2.1,
      (h c main_arg2 rfl).trans (final_args m c).2.2.1, (h c main_arg3 rfl).trans (final_args m c).2.2.2⟩,
    sem_eq_zero_of_no_sems rfl _⟩) (run_fold m ρ)

end Cert.Proof.Ref

end
-- ==== Proof.RefTop.lean ====
/-
  The reference before its loop, first part: the scores, the candidates and their boxes.
-/
module

public import proofs.«01_k».proof.Proof.RefRun
public import proofs.«01_k».proof.Proof.Spec
public import proofs.«01_k».proof.Proof.Take
public import Idealize.ShloMosaic.Lib.StableHlo.RunRead

@[expose] public section

set_option maxRecDepth 10000

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo Idealize.ShloMosaic.ValueIdx

/-- The buffers as the run of the reference names them. -/
abbrev Vals := Valuation τ sig (Elt Ideal)

/-- Entries of arrays, as extended reals. -/
abbrev e0 (x : S_.Idx → EReal) : EReal := x ValueIdx.ix0
abbrev e2 (x : S4x2048.Idx → EReal) (b : Fin 4) (i : Fin 2048) : EReal := x (ValueIdx.ix2 b i)
abbrev e3 (x : S4x2048x2048.Idx → EReal) (b : Fin 4) (i j : Fin 2048) : EReal := x (ValueIdx.ix3 b i j)

theorem read_masked (V : Vals) : after hostOps0_1 (after hostOps0 V) (Proc.devRef .tc main_v3)
    = (Spec.masked (V (Proc.devRef .tc main_arg2)) : Vec Ideal S4x20000 .f32) := by
  after_reads_simp
  unfold Spec.masked Spec.best
  simp -implicitDefEqProofs only [id, TRef.toBuf, TRef.ofBuf, cast_cast, cast_eq]

theorem read_values (V : Vals) : after hostOps0_2 V (Proc.devRef .tc main_values)
    = ((Host.topK S4x2048 1 (FloatOps.cmpfTotal (F := Ideal) (φ := .f32) .gt) (V (Proc.devRef .tc main_v3)) sliceFits_S4x20000_S4x2048).1 :
      Vec Ideal S4x2048 .f32) := by
  after_reads_simp

theorem read_indices (V : Vals) : after hostOps0_2 V (Proc.devRef .tc main_indices)
    = ((Host.topK S4x2048 1 (FloatOps.cmpfTotal (F := Ideal) (φ := .f32) .gt) (V (Proc.devRef .tc main_v3)) sliceFits_S4x20000_S4x2048).2 :
      IVec S4x2048 32) := by
  after_reads_simp

theorem read_positions (V : Vals) : after hostOps0_2 V (Proc.devRef .tc main_v4)
    = (broadcastInDim S4x2048x1 ![0, 1] bcast_S4x2048_S4x2048x1_0_1
        ((Host.topK S4x2048 1 (FloatOps.cmpfTotal (F := Ideal) (φ := .f32) .gt) (V (Proc.devRef .tc main_v3)) sliceFits_S4x20000_S4x2048).2 :
      IVec S4x2048 32) : IVec S4x2048x1 32) := by
  after_reads_simp

/-- The boxes the candidates' positions name. -/
theorem read_taken (V : Vals) (p : Fin 4 → Fin 2048 → Fin 20000)
    (hp : ∀ b r, (V (Proc.devRef .tc main_v4) : IVec S4x2048x1 32) (ix3 b r (0 : Fin 1)) = BitVec.ofNat 32 (p b r).val)
    (b : Fin 4) (r : Fin 2048) (k : Fin 7) :
    (after hostOps0_3 V (Proc.devRef .tc main_v5) : Vec Ideal S4x2048x7 .f32) (ix3 b r k)
      = (V (Proc.devRef .tc main_arg1) : Vec Ideal S4x20000x7 .f32) (ix3 b (p b r) k) := by
  after_reads_simp
  exact Take.take_rows (U := S_) gather_S4x20000x7_S4x2048x1_S4x2048x7_2_1_0_0_1_2_117
    gather_S4x20000x7_S4x2048x1_S4x2048x7_2_1_0_0_1_2_117.wf rfl _ _ _ _ _ _ _ _ reducesTo_S4x2048x1_S4x2048_d2 h_S_ bcast_S4x2048_S4x2048x7_0_1
    p hp (by decide) (fun _ => rfl) (fun _ => rfl) (fun _ => rfl) (fun _ => rfl) b r k

end Cert.Proof.Ref

end
-- ==== Proof.RefTail.lean ====
/-
  The reference after its loop, buffer by buffer: what each stretch of operations leaves, over the buffers before it.
-/
module

public import proofs.«01_k».proof.Proof.RefTop
public import proofs.«01_k».proof.Proof.Largest

@[expose] public section

set_option maxRecDepth 10000

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo Idealize.ShloMosaic.ValueIdx

variable (V : Vals)

/-- Entries of arrays, as extended reals. -/
abbrev s2 (x : S4x500.Idx → EReal) (b : Fin 4) (r : Fin 500) : EReal := x (ValueIdx.ix2 b r)
abbrev s3 (x : S4x500x3.Idx → EReal) (b : Fin 4) (r : Fin 500) (k : Fin 3) : EReal := x (ValueIdx.ix3 b r k)

/-- The scores of the candidates that are kept, minus infinity elsewhere. -/
theorem read_v78 (b : Fin 4) (j : Fin 2048) :
    (after hostOps0_10 (after hostOps0_9 V) (Proc.devRef .tc main_v78) : Vec Ideal S4x2048 .f32) (ix2 b j)
      = Scalar.select ((V (Proc.devRef .tc main_v77_4) : IVec S4x2048 1) (ix2 b j))
          ((V (Proc.devRef .tc main_values) : Vec Ideal S4x2048 .f32) (ix2 b j)) (Ideal.ofBits .f32 0xFF800000#32) := by
  after_reads_simp
  rfl

theorem read_values' : after hostOps0_11 V (Proc.devRef .tc main_values_13)
    = ((Host.topK S4x500 1 (FloatOps.cmpfTotal (F := Ideal) (φ := .f32) .gt) (V (Proc.devRef .tc main_v78)) sliceFits_S4x2048_S4x500).1 :
      Vec Ideal S4x500 .f32) := by
  after_reads_simp

theorem read_indices' : after hostOps0_11 V (Proc.devRef .tc main_indices_14)
    = ((Host.topK S4x500 1 (FloatOps.cmpfTotal (F := Ideal) (φ := .f32) .gt) (V (Proc.devRef .tc main_v78)) sliceFits_S4x2048_S4x500).2 :
      IVec S4x500 32) := by
  after_reads_simp

/-- The positions of the picked candidates' boxes. -/
theorem read_v79 (p : Fin 4 → Fin 500 → Fin 2048)
    (hp : ∀ b r, (V (Proc.devRef .tc main_indices_14) : IVec S4x500 32) (ix2 b r) = BitVec.ofNat 32 (p b r).val)
    (b : Fin 4) (r : Fin 500) :
    (after hostOps0_12 V (Proc.devRef .tc main_v79) : IVec S4x500 32) (ix2 b r)
      = (V (Proc.devRef .tc main_indices) : IVec S4x2048 32) (ix2 b (p b r)) := by
  have hu : select (cmpi .slt (V (Proc.devRef .tc main_indices_14) : IVec S4x500 32) (broadcastInDim S4x500 ![] bcast_S_S4x500 (constantI S_ 32 0#32)))
      (addi (V (Proc.devRef .tc main_indices_14) : IVec S4x500 32) (broadcastInDim S4x500 ![] bcast_S_S4x500 (constantI S_ 32 2048#32)))
      (V (Proc.devRef .tc main_indices_14) : IVec S4x500 32) = (V (Proc.devRef .tc main_indices_14) : IVec S4x500 32) :=
    Take.unmoved _ _ _ (fun _ => rfl) (fun i => (p (i 0) (i 1)).val) (fun i => by rw [ValueIdx.eq_ix2 i]; exact hp _ _)
      (fun i => by have := (p (i 0) (i 1)).isLt; omega)
  have hq : ∀ b r, (shapeCast S4x500x1 (select (cmpi .slt (V (Proc.devRef .tc main_indices_14) : IVec S4x500 32) (broadcastInDim S4x500 ![] bcast_S_S4x500 (constantI S_ 32 0#32)))
      (addi (V (Proc.devRef .tc main_indices_14) : IVec S4x500 32) (broadcastInDim S4x500 ![] bcast_S_S4x500 (constantI S_ 32 2048#32)))
      (V (Proc.devRef .tc main_indices_14) : IVec S4x500 32)) shapeCasts_S4x500_S4x500x1) (ix3 b r (0 : Fin 1)) = BitVec.ofNat 32 (p b r).val := by
    intro b r
    rw [hu, ← hp]
    refine shapeCast_apply _ _ _ (ix2 b r) ?_
    rw [Shape.rowMajor_val_three, Shape.rowMajor_val_two]
    show b.val * 500 + r.val = (b.val * 500 + r.val) * 1 + 0
    omega
  after_reads_simp
  exact Take.take_entries (U := S_) gather_S4x2048_S4x500x1_S4x500_n_1_0_0_1_2_11
    gather_S4x2048_S4x500x1_S4x500_n_1_0_0_1_2_11.wf rfl _ _ _ _ _ _ reducesTo_S4x500x1_S4x500_d2 h_S_
    p hq (by decide) (fun _ => rfl) (fun _ => rfl) (fun _ => rfl) b r

/-- Which slots are full. -/
theorem read_v84 (b : Fin 4) (r : Fin 500) :
    (after hostOps0_13 V (Proc.devRef .tc main_v84) : IVec S4x500 1) (ix2 b r)
      = IntOp.andi (BitVec.ofBool (decide (Ideal.ofBits .f32 0xFF800000#32 < s2 (V (Proc.devRef .tc main_values_13)) b r)))
          (BitVec.ofBool (decide (s2 (V (Proc.devRef .tc main_values_13)) b r < Ideal.ofBits .f32 0x7F800000#32))) := by
  after_reads_simp
  rfl

theorem read_c17 (j : S_.Idx) : (after hostOps0_13 V (Proc.devRef .tc main_c_17) : IVec S_ 32) j = 0#32 := by
  after_reads_simp
  rfl

theorem read_v85 (b : Fin 4) (r : Fin 500) (h0 : ∀ j, (V (Proc.devRef .tc main_c_17) : IVec S_ 32) j = 0#32) :
    (after hostOps0_14 V (Proc.devRef .tc main_v85) : IVec S4x500 32) (ix2 b r)
      = Scalar.select ((V (Proc.devRef .tc main_v84) : IVec S4x500 1) (ix2 b r)) ((V (Proc.devRef .tc main_v79) : IVec S4x500 32) (ix2 b r)) 0#32 := by
  after_reads_simp
  simp -implicitDefEqProofs only [id, TRef.toBuf, TRef.ofBuf, cast_cast, cast_eq]
  exact congrArg (Scalar.select ((V (Proc.devRef .tc main_v84) : IVec S4x500 1) (ix2 b r)) ((V (Proc.devRef .tc main_v79) : IVec S4x500 32) (ix2 b r)))
    (h0 _)

theorem read_v86 (b : Fin 4) (r : Fin 500) :
    (after hostOps0_15 V (Proc.devRef .tc main_v86) : IVec S4x500x1 1) (ix3 b r (0 : Fin 1)) = (V (Proc.devRef .tc main_v84) : IVec S4x500 1) (ix2 b r) := by
  after_reads_simp
  exact broadcastInDim_apply _ _ _ _ (ix2 b r) (fun a => by match a with | ⟨0, _⟩ => rfl | ⟨1, _⟩ => rfl)

theorem read_v87 (b : Fin 4) (r : Fin 500) :
    (after hostOps0_15 V (Proc.devRef .tc main_v87) : IVec S4x500x1 32) (ix3 b r (0 : Fin 1)) = (V (Proc.devRef .tc main_v85) : IVec S4x500 32) (ix2 b r) := by
  after_reads_simp
  exact broadcastInDim_apply _ _ _ _ (ix2 b r) (fun a => by match a with | ⟨0, _⟩ => rfl | ⟨1, _⟩ => rfl)

theorem read_v88 (p : Fin 4 → Fin 500 → Fin 20000)
    (hp : ∀ b r, (V (Proc.devRef .tc main_v87) : IVec S4x500x1 32) (ix3 b r (0 : Fin 1)) = BitVec.ofNat 32 (p b r).val)
    (b : Fin 4) (r : Fin 500) (k : Fin 7) :
    (after hostOps0_16 V (Proc.devRef .tc main_v88) : Vec Ideal S4x500x7 .f32) (ix3 b r k)
      = (V (Proc.devRef .tc main_arg0) : Vec Ideal S4x20000x7 .f32) (ix3 b (p b r) k) := by
  after_reads_simp
  exact Take.take_rows (U := S_) gather_S4x20000x7_S4x500x1_S4x500x7_2_1_0_0_1_2_117
    gather_S4x20000x7_S4x500x1_S4x500x7_2_1_0_0_1_2_117.wf rfl _ _ _ _ _ _ _ _ reducesTo_S4x500x1_S4x500_d2 h_S_ bcast_S4x500_S4x500x7_0_1
    p hp (by decide) (fun _ => rfl) (fun _ => rfl) (fun _ => rfl) (fun _ => rfl) b r k

theorem read_v89 (b : Fin 4) (r : Fin 500) (k : Fin 7) :
    (after hostOps0_18 (after hostOps0_17 V) (Proc.devRef .tc main_v89) : Vec Ideal S4x500x7 .f32) (ix3 b r k)
      = Scalar.select ((V (Proc.devRef .tc main_v86) : IVec S4x500x1 1) (ix3 b r (0 : Fin 1)))
          ((V (Proc.devRef .tc main_v88) : Vec Ideal S4x500x7 .f32) (ix3 b r k)) (0 : EReal) := by
  after_reads_simp
  refine (show _ = Scalar.select (broadcastInDim S4x500x7 ![0, 1, 2] bcast_S4x500x1_S4x500x7_0_1_2 (V (Proc.devRef .tc main_v86) : IVec S4x500x1 1) (ix3 b r k))
    ((V (Proc.devRef .tc main_v88) : Vec Ideal S4x500x7 .f32) (ix3 b r k)) (Ideal.ofBits .f32 0x00000000#32) from rfl).trans ?_
  rw [broadcastInDim_apply _ _ _ _ (ix3 b r (0 : Fin 1)) (fun a => by match a with | ⟨0, _⟩ => rfl | ⟨1, _⟩ => rfl | ⟨2, _⟩ => rfl),
    Ideal.ofBits_zero_f32]

theorem read_v90 (b : Fin 4) (r : Fin 500) :
    (after hostOps0_19 V (Proc.devRef .tc main_v90) : IVec S4x500x1 32) (ix3 b r (0 : Fin 1)) = (V (Proc.devRef .tc main_v85) : IVec S4x500 32) (ix2 b r) := by
  after_reads_simp
  exact broadcastInDim_apply _ _ _ _ (ix2 b r) (fun a => by match a with | ⟨0, _⟩ => rfl | ⟨1, _⟩ => rfl)

theorem read_v91 (p : Fin 4 → Fin 500 → Fin 20000)
    (hp : ∀ b r, (V (Proc.devRef .tc main_v90) : IVec S4x500x1 32) (ix3 b r (0 : Fin 1)) = BitVec.ofNat 32 (p b r).val)
    (b : Fin 4) (r : Fin 500) (k : Fin 3) :
    (after hostOps0_20 V (Proc.devRef .tc main_v91) : Vec Ideal S4x500x3 .f32) (ix3 b r k)
      = (V (Proc.devRef .tc main_arg3) : Vec Ideal S4x20000x3 .f32) (ix3 b (p b r) k) := by
  after_reads_simp
  exact Take.take_rows (U := S_) gather_S4x20000x3_S4x500x1_S4x500x3_2_1_0_0_1_2_113
    gather_S4x20000x3_S4x500x1_S4x500x3_2_1_0_0_1_2_113.wf rfl _ _ _ _ _ _ _ _ reducesTo_S4x500x1_S4x500_d2 h_S_ bcast_S4x500_S4x500x3_0_1
    p hp (by decide) (fun _ => rfl) (fun _ => rfl) (fun _ => rfl) (fun _ => rfl) b r k

theorem read_v92 (b : Fin 4) (r : Fin 500) (k : Fin 3) :
    (after hostOps0_22 (after hostOps0_21 V) (Proc.devRef .tc main_v92) : Vec Ideal S4x500x3 .f32) (ix3 b r k)
      = Scalar.select ((V (Proc.devRef .tc main_v86) : IVec S4x500x1 1) (ix3 b r (0 : Fin 1)))
          ((V (Proc.devRef .tc main_v91) : Vec Ideal S4x500x3 .f32) (ix3 b r k)) (0 : EReal) := by
  after_reads_simp
  refine (show _ = Scalar.select (broadcastInDim S4x500x3 ![0, 1, 2] bcast_S4x500x1_S4x500x3_0_1_2 (V (Proc.devRef .tc main_v86) : IVec S4x500x1 1) (ix3 b r k))
    ((V (Proc.devRef .tc main_v91) : Vec Ideal S4x500x3 .f32) (ix3 b r k)) (Ideal.ofBits .f32 0x00000000#32) from rfl).trans ?_
  rw [broadcastInDim_apply _ _ _ _ (ix3 b r (0 : Fin 1)) (fun a => by match a with | ⟨0, _⟩ => rfl | ⟨1, _⟩ => rfl | ⟨2, _⟩ => rfl),
    Ideal.ofBits_zero_f32]

/-- The mask. -/
theorem read_v93 (b : Fin 4) (r : Fin 500) :
    (after hostOps0_23 V (Proc.devRef .tc main_v93) : Vec Ideal S4x500 .f32) (ix2 b r)
      = ((((V (Proc.devRef .tc main_v84) : IVec S4x500 1) (ix2 b r)).toNat : ℝ) : EReal) := by
  after_reads_simp
  rfl

/-- The last result: the largest class score times the mask. -/
theorem read_v98 (b : Fin 4) (r : Fin 500) (q : Fin 2000) (hq : q.val = b.val * 500 + r.val) :
    (after hostOps0_23 V (Proc.devRef .tc main_v98) : Vec Ideal S2000x1 .f32) (ix2 q (0 : Fin 1))
      = (Finset.univ.fold max ⊥ fun k : Fin 3 => s3 (V (Proc.devRef .tc main_v92)) b r k)
        * ((((V (Proc.devRef .tc main_v84) : IVec S4x500 1) (ix2 b r)).toNat : ℝ) : EReal) := by
  after_reads_simp
  refine (show _ = (Host.reduce (FloatOps.maximumf (F := Ideal) (φ := .f32))
      (shapeCast S2000x3 (V (Proc.devRef .tc main_v92) : Vec Ideal S4x500x3 .f32) shapeCasts_S4x500x3_S2000x3)
      (constant (F := Ideal) S_ .f32 0xFF800000#32) reducesTo_S2000x3_S2000_d1 h_S_ (ValueIdx.ix1 q) : EReal)
    * (shapeCast S2000x1 (uitofp (F := Ideal) .f32 (V (Proc.devRef .tc main_v84) : IVec S4x500 1)) shapeCasts_S4x500_S2000x1 (ix2 q (0 : Fin 1)) : EReal) from ?_).trans ?_
  · simp -implicitDefEqProofs only [id, TRef.toBuf, TRef.ofBuf, cast_cast, cast_eq]
    refine congrArg₂ (fun x y : EReal => x * y) ?_ ?_
    · refine (broadcastInDim_apply ![0] bcast_S2000_S2000x1_0 _ (ix2 q (0 : Fin 1)) (ValueIdx.ix1 q) (fun a => by match a with | ⟨0, _⟩ => rfl)).trans ?_
      rfl
    · rfl
  · refine congrArg₂ (· * ·) ((hostRowMax _ _ _ (by decide) q).trans (congrArg (fun f : Fin 3 → EReal => Finset.univ.fold max (⊥ : EReal) f) (funext fun k => ?_))) ?_
    · refine shapeCast_apply _ _ _ (ix3 b r k) ?_
      rw [Shape.rowMajor_val_three, Shape.rowMajor_val_two]
      show (b.val * 500 + r.val) * 3 + k.val = q.val * 3 + k.val
      rw [hq]
    · refine shapeCast_apply _ _ _ (ix2 b r) ?_
      rw [Shape.rowMajor_val_two, Shape.rowMajor_val_two]
      show b.val * 500 + r.val = q.val * 1 + 0
      omega

end Cert.Proof.Ref

end
-- ==== Proof.RefBoxes.lean ====
/-
  The reference before its loop, second part: the overlaps of the candidates' boxes.
-/
module

public import proofs.«01_k».proof.Proof.RefTop
public import Idealize.ShloMosaic.Lib.StableHlo.ReadAt

@[expose] public section

set_option maxRecDepth 10000

noncomputable section

namespace Cert.Proof.Ref

open Cert.ReferenceIdeal Cert.ReferenceIdeal.Gen Cert.ReferenceIdeal.Value
open Idealize.ShloMosaic hiding ix0 ix1 ix2 ix3
open Idealize.ShloMosaic.TcCoe Idealize.SL.Sem
open Idealize.ShloMosaic.StableHlo Idealize.ShloMosaic.ValueIdx
open Cert.Proof.Kern (half tiny thr lo hi shared area iou)

variable (V : Vals)

/-- Coordinate `k` of the box of candidate `i`. -/
def co (b : Fin 4) (i : Fin 2048) (k : Fin 7) : EReal := (V (Proc.devRef .tc main_v5) : Vec Ideal S4x2048x7 .f32) (ix3 b i k)

/-- The shared lengths along the two axes, before they are clipped at zero. -/
theorem read_v57 (b : Fin 4) (i j : Fin 2048) :
    e3 (after hostOps0_4 V (Proc.devRef .tc main_v57)) b i j
      = min (hi (co V b i 0) (co V b i 3)) (hi (co V b j 0) (co V b j 3))
        - max (lo (co V b i 0) (co V b i 3)) (lo (co V b j 0) (co V b j 3)) := by
  after_reads_at
  rfl

theorem read_v56 (b : Fin 4) (i j : Fin 2048) :
    e3 (after hostOps0_4 V (Proc.devRef .tc main_v56)) b i j
      = min (hi (co V b i 1) (co V b i 4)) (hi (co V b j 1) (co V b j 4)) := by
  after_reads_at
  rfl

theorem read_v51 (b : Fin 4) (i j : Fin 2048) :
    e3 (after hostOps0_4 V (Proc.devRef .tc main_v51)) b i j
      = max (lo (co V b i 1) (co V b i 4)) (lo (co V b j 1) (co V b j 4)) := by
  after_reads_at
  rfl

/-- The areas. -/
theorem read_v36 (b : Fin 4) (i : Fin 2048) :
    e2 (after hostOps0_4 V (Proc.devRef .tc main_v36)) b i
      = area (co V b i 0) (co V b i 1) (co V b i 3) (co V b i 4) := by
  after_reads_at
  rfl

theorem read_cst6 : e0 (after hostOps0_4 V (Proc.devRef .tc main_cst_6)) = 0 := by
  after_reads_at
  exact Ideal.ofBits_zero_f32

theorem read_v58 (b : Fin 4) (i j : Fin 2048) :
    e3 (after hostOps0_5 V (Proc.devRef .tc main_v58)) b i j
      = max (e0 (V (Proc.devRef .tc main_cst_6)))
          (e3 (V (Proc.devRef .tc main_v57)) b i j) := by
  after_reads_at
  rfl

theorem read_v60 (b : Fin 4) (i j : Fin 2048) :
    e3 (after hostOps0_7 (after hostOps0_6 V) (Proc.devRef .tc main_v60)) b i j
      = max 0 (e3 (V (Proc.devRef .tc main_v56)) b i j
          - e3 (V (Proc.devRef .tc main_v51)) b i j) := by
  after_reads_at
  exact congrArg (fun z : EReal => max z _) Ideal.ofBits_zero_f32

theorem read_iou (b : Fin 4) (i j : Fin 2048) :
    e3 (after hostOps0_8 V (Proc.devRef .tc main_v77_0)) b i j
      = Ideal.div (e3 (V (Proc.devRef .tc main_v58)) b i j * e3 (V (Proc.devRef .tc main_v60)) b i j)
          (e2 (V (Proc.devRef .tc main_v36)) b i + e2 (V (Proc.devRef .tc main_v36)) b j
            - e3 (V (Proc.devRef .tc main_v58)) b i j * e3 (V (Proc.devRef .tc main_v60)) b i j + tiny) := by
  unfold e3 e2
  after_reads_simp
  simp only [id]
  clean_types
  pointwise
  rfl

/-- Which candidates the loop starts with. -/
theorem read_start (b : Fin 4) (j : Fin 2048) :
    (after hostOps0_8 V (Proc.devRef .tc main_v77_4) : IVec S4x2048 1) (ix2 b j)
      = IntOp.andi (BitVec.ofBool (decide (Ideal.ofBits .f32 0xFF800000#32 < e2 (V (Proc.devRef .tc main_values)) b j)))
          (BitVec.ofBool (decide (e2 (V (Proc.devRef .tc main_values)) b j < Ideal.ofBits .f32 0x7F800000#32))) := by
  after_reads_at
  rfl

theorem read_iota (j : Fin 2048) :
    (after hostOps0_8 V (Proc.devRef .tc main_v77_1) : IVec S2048 32) (ix1 j) = BitVec.ofNat 32 j.val := by
  after_reads_at
  rfl

theorem read_counter (j : S_.Idx) : (after hostOps0_8 V (Proc.devRef .tc main_v77_3) : IVec S_ 32) j = 0#32 := by
  after_reads_at
  rfl

end Cert.Proof.Ref

end
-- ==== Proof.RefEntry.lean ====
/-
  The reference where its loop begins: the candidates, their overlaps and which are valid, over the arguments.
-/
module

public import proofs.«01_k».proof.Proof.RefBoxes

@[expose] public section

set_option maxRecDepth 10000

noncomputable section

namespace Cert.Proof.Ref

open Cert.ReferenceIdeal Cert.ReferenceIdeal.Gen Cert.ReferenceIdeal.Value
open Idealize.ShloMosaic hiding ix0 ix1 ix2 ix3
open Idealize.ShloMosaic.TcCoe Idealize.SL.Sem
open Idealize.ShloMosaic.StableHlo Idealize.ShloMosaic.ValueIdx
open Cert.Proof.Kern (half tiny thr lo hi shared area iou)

variable (V : Vals)

/-- The student's boxes and class scores. -/
abbrev stu : Spec.Boxes := V (Proc.devRef .tc main_arg1)
abbrev scs : Spec.Classes := V (Proc.devRef .tc main_arg2)

/-- The buffers after the scores, the candidates and the candidates' boxes. -/
def vA : Vals := after hostOps0_1 (after hostOps0 V)
def vB : Vals := after hostOps0_2 (vA V)
def vC : Vals := after hostOps0_3 (vB V)
def vD : Vals := after hostOps0_4 (vC V)
def vE : Vals := after hostOps0_7 (after hostOps0_6 (after hostOps0_5 (vD V)))
def vF : Vals := after hostOps0_8 (vE V)

theorem vF_eq : afterL preI V = vF V := rfl

theorem keepA (r : Ref sig .tc) (h : r ∉ hostOps0_W) (h' : r ∉ hostOps0_1_W) : vA V (Proc.devRef .tc r) = V (Proc.devRef .tc r) := by
  unfold vA
  rw [after_of_writes_sub hostOps0_1 _ hostOps0_1_writes h', after_of_writes_sub hostOps0 _ hostOps0_writes h]

theorem keepB (r : Ref sig .tc) (h : r ∉ hostOps0_2_W) : vB V (Proc.devRef .tc r) = vA V (Proc.devRef .tc r) :=
  after_of_writes_sub hostOps0_2 _ hostOps0_2_writes h

theorem keepC (r : Ref sig .tc) (h : r ∉ hostOps0_3_W) : vC V (Proc.devRef .tc r) = vB V (Proc.devRef .tc r) :=
  after_of_writes_sub hostOps0_3 _ hostOps0_3_writes h

theorem keepD (r : Ref sig .tc) (h : r ∉ hostOps0_4_W) : vD V (Proc.devRef .tc r) = vC V (Proc.devRef .tc r) :=
  after_of_writes_sub hostOps0_4 _ hostOps0_4_writes h

theorem keepE (r : Ref sig .tc) (h5 : r ∉ hostOps0_5_W) (h6 : r ∉ hostOps0_6_W) (h7 : r ∉ hostOps0_7_W) :
    vE V (Proc.devRef .tc r) = vD V (Proc.devRef .tc r) := by
  unfold vE
  rw [after_of_writes_sub hostOps0_7 _ hostOps0_7_writes h7, after_of_writes_sub hostOps0_6 _ hostOps0_6_writes h6,
    after_of_writes_sub hostOps0_5 _ hostOps0_5_writes h5]

theorem keepF (r : Ref sig .tc) (h : r ∉ hostOps0_8_W) : vF V (Proc.devRef .tc r) = vE V (Proc.devRef .tc r) :=
  after_of_writes_sub hostOps0_8 _ hostOps0_8_writes h

/-- The candidates' scores. -/
theorem values_at (b : Fin 4) (r : Fin 2048) : e2 (vB V (Proc.devRef .tc main_values)) b r = Spec.top (scs V) b r := by
  unfold e2 vB
  rw [read_values, topK_values _ _ Spec.fits]
  unfold vA
  rw [read_masked]
  rfl

/-- The candidates' positions. -/
theorem indices_at (b : Fin 4) (r : Fin 2048) :
    (vB V (Proc.devRef .tc main_indices) : IVec S4x2048 32) (ix2 b r) = BitVec.ofNat 32 (Spec.order (scs V) b r).val := by
  unfold vB
  rw [read_indices, topK_indices _ _ Spec.fits]
  unfold vA
  rw [read_masked]
  rfl

theorem positions_at (b : Fin 4) (r : Fin 2048) :
    (vB V (Proc.devRef .tc main_v4) : IVec S4x2048x1 32) (ix3 b r (0 : Fin 1)) = BitVec.ofNat 32 (Spec.order (scs V) b r).val := by
  rw [← indices_at]
  unfold vB
  rw [read_positions, read_indices]
  exact broadcastInDim_apply _ _ _ _ (ix2 b r) (fun a => by match a with | ⟨0, _⟩ => rfl | ⟨1, _⟩ => rfl)

/-- The candidates' boxes. -/
theorem box_at (b : Fin 4) (r : Fin 2048) (k : Fin 7) : co (vC V) b r k = stu V (ix3 b (Spec.order (scs V) b r) k) := by
  unfold co vC
  rw [read_taken (vB V) (Spec.order (scs V)) (positions_at V), keepB V main_arg1 (by decide), keepA V main_arg1 (by decide) (by decide)]

/-- The overlaps. -/
theorem iou_at (b : Fin 4) (i j : Fin 2048) : e3 (vF V (Proc.devRef .tc main_v77_0)) b i j
    = iou (co (vC V) b i 0) (co (vC V) b i 1) (co (vC V) b i 3) (co (vC V) b i 4)
        (co (vC V) b j 0) (co (vC V) b j 1) (co (vC V) b j 3) (co (vC V) b j 4) := by
  have h58 : e3 (vE V (Proc.devRef .tc main_v58)) b i j = shared (co (vC V) b i 0) (co (vC V) b i 3) (co (vC V) b j 0) (co (vC V) b j 3) := by
    unfold vE
    rw [after_of_writes_sub hostOps0_7 _ hostOps0_7_writes (by decide), after_of_writes_sub hostOps0_6 _ hostOps0_6_writes (by decide),
      read_v58]
    unfold vD
    rw [read_cst6, read_v57, max_comm]
    rfl
  have h60 : e3 (vE V (Proc.devRef .tc main_v60)) b i j = shared (co (vC V) b i 1) (co (vC V) b i 4) (co (vC V) b j 1) (co (vC V) b j 4) := by
    unfold vE
    rw [read_v60, after_of_writes_sub hostOps0_5 _ hostOps0_5_writes (by decide), after_of_writes_sub hostOps0_5 _ hostOps0_5_writes (by decide)]
    unfold vD
    rw [read_v56, read_v51, max_comm]
    rfl
  have h36 : ∀ i, e2 (vE V (Proc.devRef .tc main_v36)) b i = area (co (vC V) b i 0) (co (vC V) b i 1) (co (vC V) b i 3) (co (vC V) b i 4) := by
    intro i
    rw [keepE V main_v36 (by decide) (by decide) (by decide)]
    exact read_v36 (vC V) b i
  unfold vF
  rw [read_iou, h58, h60, h36, h36]
  rfl

/-- Which candidates the loop starts with, no score being infinite. -/
theorem start_at (hs : ∀ i, scs V i < ⊤) (b : Fin 4) (j : Fin 2048) :
    (vF V (Proc.devRef .tc main_v77_4) : IVec S4x2048 1) (ix2 b j) = 1#1 ↔ Spec.valid (scs V) b j := by
  have hv : e2 (vE V (Proc.devRef .tc main_values)) b j = Spec.top (scs V) b j := by
    rw [keepE V main_values (by decide) (by decide) (by decide), keepD V main_values (by decide), keepC V main_values (by decide)]
    exact values_at V b j
  unfold vF
  rw [read_start, hv, negInf_eq]
  have ht : Spec.top (scs V) b j < Ideal.ofBits .f32 0x7F800000#32 := by
    have : Ideal.ofBits .f32 0x7F800000#32 = (⊤ : EReal) := by simp [Ideal.ofBits, Ideal.ieee]
    rw [this]
    exact Spec.masked_lt _ hs _
  rw [decide_eq_true ht]
  unfold Spec.valid
  by_cases h : ⊥ < Spec.top (scs V) b j
  · rw [decide_eq_true h]; exact ⟨fun _ => h, fun _ => rfl⟩
  · rw [decide_eq_false h]; exact ⟨fun e => absurd (show (0#1 : BitVec 1) = 1#1 from e) (by decide), fun e => absurd e h⟩

end Cert.Proof.Ref

end
-- ==== Proof.RefLoop.lean ====
/-
  The reference's loop: after `k` trips the keep mask holds the candidates the greedy pass has kept after `k` candidates.
-/
module

public import proofs.«01_k».proof.Proof.RefEntry
public import Idealize.ShloMosaic.Lib.WordCmp
public import Idealize.ShloMosaic.Lib.PointwiseCore

@[expose] public section

set_option maxRecDepth 10000

noncomputable section

namespace Cert.Proof.Ref

open Cert.ReferenceIdeal Cert.ReferenceIdeal.Gen Cert.ReferenceIdeal.Value
open Idealize.ShloMosaic hiding ix0 ix1 ix2 ix3
open Idealize.ShloMosaic.TcCoe Idealize.SL.Sem
open Idealize.ShloMosaic.StableHlo Idealize.ShloMosaic.ValueIdx
open Cert.Proof.Kern (half tiny thr lo hi shared area iou)

/-- The keep mask at an entry. -/
abbrev on (V : Vals) (b : Fin 4) (j : Fin 2048) : BitVec 1 := (V (Proc.devRef .tc main_v77_4) : IVec S4x2048 1) (ix2 b j)

theorem bit_and_iff (x y : BitVec 1) : IntOp.andi x y = 1#1 ↔ x = 1#1 ∧ y = 1#1 := by
  revert x y; decide

theorem bit_not_iff (x : BitVec 1) : ~~~x = 1#1 ↔ ¬ x = 1#1 := by
  revert x; decide

theorem ofBool_iff (p : Prop) [Decidable p] : BitVec.ofBool (decide p) = 1#1 ↔ p := by
  by_cases h : p
  · rw [decide_eq_true h]; exact ⟨fun _ => h, fun _ => rfl⟩
  · rw [decide_eq_false h]; exact ⟨fun e => absurd (show (0#1 : BitVec 1) = 1#1 from e) (by decide), fun e => absurd e h⟩

/-- The counter of trip `k`, the row it picks: not moved. -/
theorem counter_unmoved (x z e : IVec S_ 32) (k : ℕ) (hk : k < 2048) (hx : x = fun _ => BitVec.ofNat 32 k) (hz : ∀ i, z i = 0#32) :
    select (cmpi .slt x z) e x = x := by
  funext i
  show Scalar.select (IntOp.cmpi .slt (x i) (z i)) _ (x i) = x i
  have hc : IntOp.cmpi .slt (x i) (z i) = 0#1 := by
    show BitVec.ofBool ((x i).slt (z i)) = 0#1
    have h1 : BitVec.slt (BitVec.ofNat 32 k) 0#32 = false := by
      rw [BitVec.slt_eq_decide, StableHlo.Predicate.toInt_ofNat_small _ (by omega)]
      exact decide_eq_false (by rw [show (0#32).toInt = 0 from rfl]; omega)
    rw [hz, hx, h1]
    rfl
  rw [hc]; rfl

/-- The entry of the keep mask that trip `k` slices out. -/
theorem slice_keep (x : IVec S4x2048 1) (st : Fin 2 → ℤ) (k : Fin 2048) (h0 : st 0 = 0) (h1 : st 1 = k.val) (b : Fin 4) :
    Host.dynamicSlice S4x1 x st sliceFits_S4x2048_S4x1 (ix2 b (0 : Fin 1)) = x (ix2 b k) := by
  have hs : S4x2048.Slices ![0, k.val] S4x1 := ⟨rfl, fun a => by
    match a with
    | ⟨0, _⟩ => exact le_refl _
    | ⟨1, _⟩ => exact k.isLt⟩
  rw [WordCmp.dynamicSlice_eq_extract S4x1 x st sliceFits_S4x2048_S4x1 ![0, k.val] hs (fun a => by
    match a with
    | ⟨0, _⟩ => exact h0
    | ⟨1, _⟩ => exact h1)]
  exact extractStridedSlice_apply _ x hs _ (ix2 b k) (fun a => by
    match a with
    | ⟨0, _⟩ => exact (Nat.zero_add _).symm
    | ⟨1, _⟩ => rfl)

/-- The row of the overlaps that trip `k` slices out. -/
theorem slice_iou (x : S4x2048x2048.Idx → EReal) (st : Fin 3 → ℤ) (k : Fin 2048) (h0 : st 0 = 0) (h1 : st 1 = k.val) (h2 : st 2 = 0)
    (b : Fin 4) (j : Fin 2048) :
    shapeCast S4x2048 (Host.dynamicSlice S4x1x2048 x st sliceFits_S4x2048x2048_S4x1x2048) shapeCasts_S4x1x2048_S4x2048 (ix2 b j)
      = x (ix3 b k j) := by
  have hs : S4x2048x2048.Slices ![0, k.val, 0] S4x1x2048 := ⟨rfl, fun a => by
    match a with
    | ⟨0, _⟩ => exact le_refl _
    | ⟨1, _⟩ => exact k.isLt
    | ⟨2, _⟩ => exact le_refl _⟩
  rw [WordCmp.dynamicSlice_eq_extract S4x1x2048 x st sliceFits_S4x2048x2048_S4x1x2048 ![0, k.val, 0] hs (fun a => by
    match a with
    | ⟨0, _⟩ => exact h0
    | ⟨1, _⟩ => exact h1
    | ⟨2, _⟩ => exact h2)]
  refine (shapeCast_apply _ _ _ (ix3 b (0 : Fin 1) j) ?_).trans ?_
  · rw [Shape.rowMajor_val_three, Shape.rowMajor_val_two]
    show (b.val * 1 + 0) * 2048 + j.val = b.val * 2048 + j.val
    omega
  exact extractStridedSlice_apply _ x hs _ (ix3 b k j) (fun a => by
    match a with
    | ⟨0, _⟩ => exact (Nat.zero_add _).symm
    | ⟨1, _⟩ => rfl
    | ⟨2, _⟩ => exact (Nat.zero_add _).symm)

/-- One trip. -/
theorem trip_at (V : Vals) (k : Fin 2048) (hc : (V (Proc.devRef .tc main_v77_3) : IVec S_ 32) = fun _ => BitVec.ofNat 32 k.val)
    (hi : ∀ j : Fin 2048, (V (Proc.devRef .tc main_v77_1) : IVec S2048 32) (ix1 j) = BitVec.ofNat 32 j.val) (b : Fin 4) (j : Fin 2048) :
    on (afterL bodyI V) b j = 1#1
      ↔ on V b j = 1#1 ∧ ¬ (on V b k = 1#1 ∧ k < j ∧ thr < e3 (V (Proc.devRef .tc main_v77_0)) b k j) := by
  unfold on
  rw [trip_main_v77_4]
  simp only [id]
  have hu := counter_unmoved (V (Proc.devRef .tc main_v77_3)) (constantI S_ 32 0#32)
    (addi (V (Proc.devRef .tc main_v77_3)) (constantI S_ 32 2048#32)) k.val k.isLt hc (fun _ => rfl)
  rw [hu]
  have hk : ((V (Proc.devRef .tc main_v77_3) : IVec S_ 32) (Shape.Idx.first h_S_)).toInt = k.val := by
    rw [hc]; exact StableHlo.Predicate.toInt_ofNat_small _ (by have := k.isLt; omega)
  show IntOp.andi (_ : BitVec 1) (~~~ (IntOp.andi (IntOp.andi (_ : BitVec 1) (_ : BitVec 1)) (_ : BitVec 1))) = 1#1 ↔ _
  rw [bit_and_iff, bit_not_iff, bit_and_iff, bit_and_iff]
  have e1 : broadcastInDim S4x2048 ![0, 1] bcast_S4x1_S4x2048_0_1 (Host.dynamicSlice S4x1 (V (Proc.devRef .tc main_v77_4) : IVec S4x2048 1)
      (fun a => ((![constantI S_ 32 0#32, V (Proc.devRef .tc main_v77_3)] : Fin 2 → IVec S_ 32) a (Shape.Idx.first h_S_)).toInt)
      sliceFits_S4x2048_S4x1) (ix2 b j) = on V b k := by
    refine (broadcastInDim_apply _ _ _ _ (ix2 b (0 : Fin 1)) (fun a => by match a with | ⟨0, _⟩ => rfl | ⟨1, _⟩ => rfl)).trans ?_
    exact slice_keep _ _ k rfl hk b
  have e2' : shapeCast S4x2048 (Host.dynamicSlice S4x1x2048 (V (Proc.devRef .tc main_v77_0))
      (fun a => ((![constantI S_ 32 0#32, V (Proc.devRef .tc main_v77_3), constantI S_ 32 0#32] : Fin 3 → IVec S_ 32) a (Shape.Idx.first h_S_)).toInt)
      sliceFits_S4x2048x2048_S4x1x2048) shapeCasts_S4x1x2048_S4x2048 (ix2 b j) = e3 (V (Proc.devRef .tc main_v77_0)) b k j :=
    slice_iou _ _ k rfl hk rfl b j
  have e3' : broadcastInDim S4x2048 ![0, 1] bcast_S1x2048_S4x2048_0_1 (broadcastInDim S1x2048 ![1] bcast_S2048_S1x2048_1
      (cmpi .sgt (V (Proc.devRef .tc main_v77_1) : IVec S2048 32) (broadcastInDim S2048 ![] bcast_S_S2048 (V (Proc.devRef .tc main_v77_3) : IVec S_ 32))))
      (ix2 b j) = BitVec.ofBool (decide (k < j)) := by
    refine (broadcastInDim_apply _ _ _ _ (ix2 (0 : Fin 1) j) (fun a => by match a with | ⟨0, _⟩ => rfl | ⟨1, _⟩ => rfl)).trans ?_
    refine (broadcastInDim_apply _ _ _ _ (ix1 j) (fun a => by match a with | ⟨0, _⟩ => rfl)).trans ?_
    show BitVec.ofBool (BitVec.slt (broadcastInDim S2048 ![] bcast_S_S2048 (V (Proc.devRef .tc main_v77_3) : IVec S_ 32) (ix1 j))
      ((V (Proc.devRef .tc main_v77_1) : IVec S2048 32) (ix1 j))) = _
    rw [hi, hc]
    show BitVec.ofBool (BitVec.slt (BitVec.ofNat 32 k.val) (BitVec.ofNat 32 j.val)) = _
    have hk' := k.isLt
    have hj' := j.isLt
    rw [BitVec.slt_eq_decide, StableHlo.Predicate.toInt_ofNat_small _ (by omega), StableHlo.Predicate.toInt_ofNat_small _ (by omega)]
    congr 1
    exact decide_eq_decide.mpr (by rw [Fin.lt_def]; omega)
  rw [e1, e3', ofBool_iff]
  refine and_congr Iff.rfl (not_congr ?_)
  have e4 : cmpf (F := Ideal) (φ := .f32) .ogt (shapeCast S4x2048 (Host.dynamicSlice S4x1x2048 (V (Proc.devRef .tc main_v77_0))
      (fun a => ((![constantI S_ 32 0#32, V (Proc.devRef .tc main_v77_3), constantI S_ 32 0#32] : Fin 3 → IVec S_ 32) a (Shape.Idx.first h_S_)).toInt)
      sliceFits_S4x2048x2048_S4x1x2048) shapeCasts_S4x1x2048_S4x2048)
      (broadcastInDim S4x2048 ![] bcast_S_S4x2048 (constant S_ .f32 0x3F333333#32)) (ix2 b j) = 1#1
      ↔ thr < e3 (V (Proc.devRef .tc main_v77_0)) b k j := by
    rw [← e2']
    exact ofBool_iff _
  refine (and_congr (and_congr Iff.rfl e4) Iff.rfl).trans ?_
  constructor
  · rintro ⟨⟨h1, h2⟩, h3⟩; exact ⟨h1, h3, h2⟩
  · rintro ⟨h1, h3, h2⟩; exact ⟨⟨h1, h2⟩, h3⟩

variable (m : (ℓ : Loc nD τ sig) → Buf (Elt Ideal) ℓ)

/-- The buffers a launch starts with, of one core. -/
abbrev v0 (c : Dev nD) : Vals := launchContents m c

/-- The counter the body reads. -/
theorem counter_at (c : Dev nD) (k : ℕ) : (atK m k c (Proc.devRef .tc main_v77_3) : IVec S_ 32) = fun _ => BitVec.ofNat 32 k := by
  induction k with
  | zero => funext j; exact read_counter (vE (v0 m c)) j
  | succ k ih =>
    rw [show atK m (k + 1) c = afterL bodyI (after condOps (atK m k c)) from rfl, trip_main_v77_3,
      after_of_writes_sub condOps _ condOps_writes (by decide), ih]
    funext j
    show BitVec.ofNat 32 k + 1#32 = BitVec.ofNat 32 (k + 1)
    rw [BitVec.ofNat_add]

/-- The overlaps and the candidates' numbers stay as they were when the loop began. -/
theorem iou_kept (c : Dev nD) (k : ℕ) :
    atK m k c (Proc.devRef .tc main_v77_0) = vF (v0 m c) (Proc.devRef .tc main_v77_0) := by
  induction k with
  | zero => rfl
  | succ k ih =>
    rw [show atK m (k + 1) c = afterL bodyI (after condOps (atK m k c)) from rfl, trip_main_v77_0,
      after_of_writes_sub condOps _ condOps_writes (by decide), ih]

theorem iota_kept (c : Dev nD) (k : ℕ) :
    atK m k c (Proc.devRef .tc main_v77_1) = vF (v0 m c) (Proc.devRef .tc main_v77_1) := by
  induction k with
  | zero => rfl
  | succ k ih =>
    rw [show atK m (k + 1) c = afterL bodyI (after condOps (atK m k c)) from rfl, trip_main_v77_1,
      after_of_writes_sub condOps _ condOps_writes (by decide), ih]

/-- The keep mask after `k` trips. -/
theorem keep_at (c : Dev nD) (hs : ∀ i, scs (v0 m c) i < ⊤) (b : Fin 4) (k : ℕ) (hk : k ≤ 2048) (j : Fin 2048) :
    on (atK m k c) b j = 1#1 ↔ Greedy.pass (Spec.valid (scs (v0 m c)) b) (Spec.sup (stu (v0 m c)) (scs (v0 m c)) b) k j := by
  induction k generalizing j with
  | zero => exact start_at (v0 m c) hs b j
  | succ k ih =>
    have hk' : k < 2048 := hk
    have hcond : ∀ r, r ∉ condOps_W → after condOps (atK m k c) (Proc.devRef .tc r) = atK m k c (Proc.devRef .tc r) :=
      fun r hr => after_of_writes_sub condOps _ condOps_writes hr
    have hiota : ∀ j : Fin 2048, (after condOps (atK m k c) (Proc.devRef .tc main_v77_1) : IVec S2048 32) (ix1 j) = BitVec.ofNat 32 j.val := by
      intro j
      rw [hcond main_v77_1 (by decide), iota_kept]
      exact read_iota (vE (v0 m c)) j
    have hiou : ∀ i j : Fin 2048, e3 (after condOps (atK m k c) (Proc.devRef .tc main_v77_0)) b i j = e3 (vF (v0 m c) (Proc.devRef .tc main_v77_0)) b i j := by
      intro i j
      rw [hcond main_v77_0 (by decide), iou_kept]
    have := trip_at (after condOps (atK m k c)) ⟨k, hk'⟩ ((hcond main_v77_3 (by decide)).trans (counter_at m c k)) hiota b j
    rw [show atK m (k + 1) c = afterL bodyI (after condOps (atK m k c)) from rfl, this]
    unfold on
    rw [hcond main_v77_4 (by decide)]
    have ih' := fun j => ih (Nat.le_of_lt hk') j
    unfold on at ih'
    rw [ih', ih', hiou, iou_at]
    simp only [box_at]
    refine and_congr Iff.rfl (not_congr ⟨?_, ?_⟩)
    · rintro ⟨h1, h2, h3⟩; exact ⟨⟨k, hk'⟩, rfl, h1, h2, h3⟩
    · rintro ⟨i, hi, h1, h2, h3⟩
      obtain rfl : i = ⟨k, hk'⟩ := Fin.ext hi
      exact ⟨h1, h2, h3⟩

/-- The keep mask when the loop has ended. -/
theorem keep_ended (c : Dev nD) (hs : ∀ i, scs (v0 m c) i < ⊤) (b : Fin 4) (j : Fin 2048) :
    on (ended m c) b j = 1#1 ↔ Spec.kept (stu (v0 m c)) (scs (v0 m c)) b j := by
  unfold ended on
  rw [after_of_writes_sub condOps _ condOps_writes (by decide)]
  exact keep_at m c hs b 2048 (le_refl _) j

end Cert.Proof.Ref

end
-- ==== Proof.RefPost.lean ====
/-
  The reference's four results: every slot of a batch holds what the specification says.
-/
module

public import proofs.«01_k».proof.Proof.RefTail
public import proofs.«01_k».proof.Proof.RefLoop

@[expose] public section

set_option maxRecDepth 10000

noncomputable section

namespace Cert.Proof.Ref

open Cert.ReferenceIdeal Cert.ReferenceIdeal.Gen Cert.ReferenceIdeal.Value
open Idealize.ShloMosaic hiding ix0 ix1 ix2 ix3
open Idealize.ShloMosaic.TcCoe Idealize.SL.Sem
open Idealize.ShloMosaic.StableHlo Idealize.ShloMosaic.ValueIdx

/-! ## The stages after the loop -/

section Stages

variable (V : Vals)

def t1 : Vals := after hostOps0_10 (after hostOps0_9 V)
def t2 : Vals := after hostOps0_11 (t1 V)
def t3 : Vals := after hostOps0_12 (t2 V)
def t4 : Vals := after hostOps0_13 (t3 V)
def t5 : Vals := after hostOps0_14 (t4 V)
def t6 : Vals := after hostOps0_15 (t5 V)
def t7 : Vals := after hostOps0_16 (t6 V)
def t8 : Vals := after hostOps0_18 (after hostOps0_17 (t7 V))
def t9 : Vals := after hostOps0_19 (t8 V)
def t10 : Vals := after hostOps0_20 (t9 V)
def t11 : Vals := after hostOps0_22 (after hostOps0_21 (t10 V))
def t12 : Vals := after hostOps0_23 (t11 V)

theorem t12_eq : afterL postI V = t12 V := rfl

theorem keep1 (r : Ref sig .tc) (h : r ∉ w9) (h' : r ∉ w10) : t1 V (Proc.devRef .tc r) = V (Proc.devRef .tc r) := by
  unfold t1
  rw [after_of_writes_sub hostOps0_10 _ writes10 h', after_of_writes_sub hostOps0_9 _ writes9 h]
theorem keep2 (r : Ref sig .tc) (h : r ∉ w11) : t2 V (Proc.devRef .tc r) = t1 V (Proc.devRef .tc r) :=
  after_of_writes_sub hostOps0_11 _ writes11 h
theorem keep3 (r : Ref sig .tc) (h : r ∉ w12) : t3 V (Proc.devRef .tc r) = t2 V (Proc.devRef .tc r) :=
  after_of_writes_sub hostOps0_12 _ writes12 h
theorem keep4 (r : Ref sig .tc) (h : r ∉ w13) : t4 V (Proc.devRef .tc r) = t3 V (Proc.devRef .tc r) :=
  after_of_writes_sub hostOps0_13 _ writes13 h
theorem keep5 (r : Ref sig .tc) (h : r ∉ w14) : t5 V (Proc.devRef .tc r) = t4 V (Proc.devRef .tc r) :=
  after_of_writes_sub hostOps0_14 _ writes14 h
theorem keep6 (r : Ref sig .tc) (h : r ∉ w15) : t6 V (Proc.devRef .tc r) = t5 V (Proc.devRef .tc r) :=
  after_of_writes_sub hostOps0_15 _ writes15 h
theorem keep7 (r : Ref sig .tc) (h : r ∉ w16) : t7 V (Proc.devRef .tc r) = t6 V (Proc.devRef .tc r) :=
  after_of_writes_sub hostOps0_16 _ writes16 h
theorem keep8 (r : Ref sig .tc) (h : r ∉ w17) (h' : r ∉ w18) : t8 V (Proc.devRef .tc r) = t7 V (Proc.devRef .tc r) := by
  unfold t8
  rw [after_of_writes_sub hostOps0_18 _ writes18 h', after_of_writes_sub hostOps0_17 _ writes17 h]
theorem keep9 (r : Ref sig .tc) (h : r ∉ w19) : t9 V (Proc.devRef .tc r) = t8 V (Proc.devRef .tc r) :=
  after_of_writes_sub hostOps0_19 _ writes19 h
theorem keep10 (r : Ref sig .tc) (h : r ∉ w20) : t10 V (Proc.devRef .tc r) = t9 V (Proc.devRef .tc r) :=
  after_of_writes_sub hostOps0_20 _ writes20 h
theorem keep11 (r : Ref sig .tc) (h : r ∉ w21) (h' : r ∉ w22) : t11 V (Proc.devRef .tc r) = t10 V (Proc.devRef .tc r) := by
  unfold t11
  rw [after_of_writes_sub hostOps0_22 _ writes22 h', after_of_writes_sub hostOps0_21 _ writes21 h]
theorem keep12 (r : Ref sig .tc) (h : r ∉ w23) : t12 V (Proc.devRef .tc r) = t11 V (Proc.devRef .tc r) :=
  after_of_writes_sub hostOps0_23 _ writes23 h

/-- The candidate a slot names, kept or not. -/
def slot (b : Fin 4) (r : Fin 500) : Fin 2048 :=
  from_ (t1 V (Proc.devRef .tc main_v78) : S4x2048.Idx → EReal) b (Fin.castLE Spec.fits' r)

end Stages

/-! ## What the stages hold -/

section Slots

open Classical

/-- What the loop leaves: the candidates' scores and positions, and the keep mask. -/
structure Left (V : Vals) (x : Spec.Boxes) (s : Spec.Classes) : Prop where
  values : ∀ b j, e2 (V (Proc.devRef .tc main_values)) b j = Spec.top s b j
  indices : ∀ b j, (V (Proc.devRef .tc main_indices) : IVec S4x2048 32) (ix2 b j) = BitVec.ofNat 32 (Spec.order s b j).val
  keep : ∀ b j, on V b j = 1#1 ↔ Spec.kept x s b j
  below : ∀ i, s i < ⊤

variable {V : Vals} {x : Spec.Boxes} {s : Spec.Classes} (L : Left V x s)
include L

theorem score_at (b : Fin 4) (j : Fin 2048) :
    e2 (t1 V (Proc.devRef .tc main_v78)) b j = if Spec.kept x s b j then Spec.top s b j else ⊥ := by
  unfold e2 t1
  rw [read_v78, show (Ideal.ofBits .f32 0xFF800000#32 : EReal) = ⊥ from negInf_eq]
  show Scalar.select (on V b j) (e2 (V (Proc.devRef .tc main_values)) b j) ⊥ = _
  rw [L.values]
  exact ite_congr (propext (L.keep b j)) (fun _ => rfl) (fun _ => rfl)

theorem slot_spec (b : Fin 4) (r : Fin 500) :
    (r.val < Order.total (Spec.kept x s b) → Spec.picked x s b r.val (slot V b r))
      ∧ (Order.total (Spec.kept x s b) ≤ r.val → ¬Spec.kept x s b (slot V b r)) :=
  Order.sortedFrom_masked (Spec.kept x s b) (Spec.top s b) (e2 (t1 V (Proc.devRef .tc main_v78)) b) (Spec.top_descends s b)
    (Spec.kept_valid x s b) (fun j hj => (score_at L b j).trans (if_pos hj)) (fun j hj => (score_at L b j).trans (if_neg hj))
    (sorts (t1 V (Proc.devRef .tc main_v78) : S4x2048.Idx → EReal) b)
    (sorts_iff (t1 V (Proc.devRef .tc main_v78) : S4x2048.Idx → EReal) b) (Fin.castLE Spec.fits' r)

/-- A value that is taken where the slot's candidate is kept, and zero elsewhere, is the slot's value. -/
theorem slotted_eq (b : Fin 4) (r : Fin 500) (f : Fin 20000 → EReal) :
    (if Spec.kept x s b (slot V b r) then f (Spec.order s b (slot V b r)) else 0) = Spec.slotted x s b r.val f := by
  obtain ⟨h1, h2⟩ := slot_spec L b r
  by_cases h : r.val < Order.total (Spec.kept x s b)
  · rw [if_pos (h1 h).1, Spec.slotted_pos x s b r.val f _ (h1 h)]
  · rw [if_neg (h2 (not_lt.mp h)), Spec.slotted_neg x s b r.val f (not_lt.mp h)]

/-- Whether a slot is full. -/
theorem full_at (b : Fin 4) (r : Fin 500) :
    (t4 V (Proc.devRef .tc main_v84) : IVec S4x500 1) (ix2 b r) = BitVec.ofBool (decide (Spec.kept x s b (slot V b r))) := by
  have hv : s2 (t3 V (Proc.devRef .tc main_values_13)) b r
      = if Spec.kept x s b (slot V b r) then Spec.top s b (slot V b r) else ⊥ := by
    rw [keep3 V main_values_13 (by decide)]
    unfold t2 s2
    rw [read_values', topK_values _ _ Spec.fits']
    exact score_at L b (slot V b r)
  unfold t4
  rw [read_v84, hv, show (Ideal.ofBits .f32 0xFF800000#32 : EReal) = ⊥ from negInf_eq,
    show (Ideal.ofBits .f32 0x7F800000#32 : EReal) = ⊤ by simp [Ideal.ofBits, Ideal.ieee]]
  by_cases h : Spec.kept x s b (slot V b r)
  · rw [if_pos h, decide_eq_true (Spec.kept_valid x s b _ h), decide_eq_true (show Spec.top s b (slot V b r) < ⊤ from Spec.masked_lt s L.below _),
      decide_eq_true h]
    rfl
  · rw [if_neg h, decide_eq_false (lt_irrefl _), decide_eq_false h]
    exact BitVec.zero_and

theorem select_full (b : Fin 4) (r : Fin 500) {α : Type} (p q : α) :
    Scalar.select (BitVec.ofBool (decide (Spec.kept x s b (slot V b r)))) p q = if Spec.kept x s b (slot V b r) then p else q := by
  by_cases h : Spec.kept x s b (slot V b r)
  · rw [decide_eq_true h, if_pos h]; rfl
  · rw [decide_eq_false h, if_neg h]; rfl

/-- The box of a slot: zero where the slot is empty. -/
theorem position_at (b : Fin 4) (r : Fin 500) :
    (t5 V (Proc.devRef .tc main_v85) : IVec S4x500 32) (ix2 b r)
      = BitVec.ofNat 32 (if Spec.kept x s b (slot V b r) then Spec.order s b (slot V b r) else (0 : Fin 20000)).val := by
  have hi : ∀ b r, (t2 V (Proc.devRef .tc main_indices_14) : IVec S4x500 32) (ix2 b r) = BitVec.ofNat 32 (slot V b r).val := by
    intro b r
    unfold t2
    rw [read_indices', topK_indices _ _ Spec.fits']
    rfl
  have hp : (t4 V (Proc.devRef .tc main_v79) : IVec S4x500 32) (ix2 b r) = BitVec.ofNat 32 (Spec.order s b (slot V b r)).val := by
    rw [keep4 V main_v79 (by decide)]
    unfold t3
    rw [read_v79 (t2 V) (slot V) hi, keep2 V main_indices (by decide), keep1 V main_indices (by decide) (by decide), L.indices]
  unfold t5
  rw [read_v85 (t4 V) b r (fun j => by unfold t4; exact read_c17 _ j), full_at L, hp, select_full L]
  split <;> rfl

end Slots

/-! ## The results -/

section Results

open Classical

variable {V : Vals} {x : Spec.Boxes} {s : Spec.Classes} (L : Left V x s)
include L

theorem bit_at (b : Fin 4) (r : Fin 500) :
    (t6 V (Proc.devRef .tc main_v86) : IVec S4x500x1 1) (ix3 b r (0 : Fin 1)) = BitVec.ofBool (decide (Spec.kept x s b (slot V b r))) := by
  unfold t6
  rw [read_v86, keep5 V main_v84 (by decide), full_at L]

/-- The boxes. -/
theorem rois_at (b : Fin 4) (r : Fin 500) (k : Fin 7) :
    (t12 V (Proc.devRef .tc main_v89) : Vec Ideal S4x500x7 .f32) (ix3 b r k)
      = Spec.slotted x s b r.val fun n => (V (Proc.devRef .tc main_arg0) : Spec.Boxes) (ix3 b n k) := by
  rw [← slotted_eq L, keep12 V main_v89 (by decide), keep11 V main_v89 (by decide) (by decide), keep10 V main_v89 (by decide),
    keep9 V main_v89 (by decide)]
  unfold t8
  rw [read_v89, keep7 V main_v86 (by decide), bit_at L]
  unfold t7
  rw [read_v88 (t6 V) (fun b r => if Spec.kept x s b (slot V b r) then Spec.order s b (slot V b r) else (0 : Fin 20000))
    (fun b r => by unfold t6; rw [read_v87, position_at L]), keep6 V main_arg0 (by decide), keep5 V main_arg0 (by decide),
    keep4 V main_arg0 (by decide), keep3 V main_arg0 (by decide), keep2 V main_arg0 (by decide), keep1 V main_arg0 (by decide) (by decide),
    select_full L]
  split <;> rfl

/-- The class scores. -/
theorem cls_at (b : Fin 4) (r : Fin 500) (k : Fin 3) :
    (t12 V (Proc.devRef .tc main_v92) : Vec Ideal S4x500x3 .f32) (ix3 b r k)
      = Spec.slotted x s b r.val fun n => (V (Proc.devRef .tc main_arg3) : Spec.Classes) (ix3 b n k) := by
  rw [← slotted_eq L, keep12 V main_v92 (by decide)]
  unfold t11
  rw [read_v92, keep10 V main_v86 (by decide), keep9 V main_v86 (by decide), keep8 V main_v86 (by decide) (by decide),
    keep7 V main_v86 (by decide), bit_at L]
  unfold t10
  rw [read_v91 (t9 V) (fun b r => if Spec.kept x s b (slot V b r) then Spec.order s b (slot V b r) else (0 : Fin 20000))
    (fun b r => by
      unfold t9
      rw [read_v90, keep8 V main_v85 (by decide) (by decide), keep7 V main_v85 (by decide), keep6 V main_v85 (by decide), position_at L]),
    keep9 V main_arg3 (by decide), keep8 V main_arg3 (by decide) (by decide), keep7 V main_arg3 (by decide),
    keep6 V main_arg3 (by decide), keep5 V main_arg3 (by decide),
    keep4 V main_arg3 (by decide), keep3 V main_arg3 (by decide), keep2 V main_arg3 (by decide), keep1 V main_arg3 (by decide) (by decide),
    select_full L]
  split <;> rfl

theorem bit_late (b : Fin 4) (r : Fin 500) :
    ((((t11 V (Proc.devRef .tc main_v84) : IVec S4x500 1) (ix2 b r)).toNat : ℝ) : EReal) = Spec.slotted x s b r.val fun _ => 1 := by
  rw [← slotted_eq L, keep11 V main_v84 (by decide) (by decide), keep10 V main_v84 (by decide), keep9 V main_v84 (by decide),
    keep8 V main_v84 (by decide) (by decide), keep7 V main_v84 (by decide), keep6 V main_v84 (by decide), keep5 V main_v84 (by decide),
    full_at L]
  by_cases h : Spec.kept x s b (slot V b r)
  · rw [if_pos h, decide_eq_true h]; simp
  · rw [if_neg h, decide_eq_false h]; simp

/-- The mask. -/
theorem mask_at (b : Fin 4) (r : Fin 500) :
    (t12 V (Proc.devRef .tc main_v93) : Vec Ideal S4x500 .f32) (ix2 b r) = Spec.slotted x s b r.val fun _ => 1 := by
  rw [← bit_late L]
  exact read_v93 _ b r

/-- The largest class score of a slot. -/
theorem kd_at (b : Fin 4) (r : Fin 500) (q : Fin 2000) (hq : q.val = b.val * 500 + r.val) :
    (t12 V (Proc.devRef .tc main_v98) : Vec Ideal S2000x1 .f32) (ix2 q (0 : Fin 1))
      = (Finset.univ.fold max ⊥ fun k : Fin 3 => Spec.slotted x s b r.val fun n => (V (Proc.devRef .tc main_arg3) : Spec.Classes) (ix3 b n k))
        * Spec.slotted x s b r.val fun _ => 1 := by
  rw [← bit_late L]
  refine (read_v98 _ b r q hq).trans ?_
  refine congrArg₂ (fun p q : EReal => p * q) (congrArg (fun f : Fin 3 → EReal => Finset.univ.fold max (⊥ : EReal) f) (funext fun k => ?_)) rfl
  rw [← cls_at L, keep12 V main_v92 (by decide)]

end Results

end Cert.Proof.Ref

end
-- ==== Proof.RefResult.lean ====
/-
  A run of the reference: its four results over its arguments.
-/
module

public import proofs.«01_k».proof.Proof.RefPost

@[expose] public section

set_option maxRecDepth 10000

noncomputable section

namespace Cert.Proof.Ref

open Cert.ReferenceIdeal Cert.ReferenceIdeal.Gen Cert.ReferenceIdeal.Value
open Idealize.ShloMosaic hiding ix0 ix1 ix2 ix3
open Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- What a core's run leaves when the loop has ended. -/
theorem left (c : Dev nD) (hs : ∀ i, scs (v0 m c) i < ⊤) : Left (ended m c) (stu (v0 m c)) (scs (v0 m c)) where
  values b j := by
    have h : ended m c (Proc.devRef .tc main_values) = vB (v0 m c) (Proc.devRef .tc main_values) := by
      rw [ended_keep m c main_values (by decide) (by decide)]
      show vF (v0 m c) (Proc.devRef .tc main_values) = _
      rw [keepF _ main_values (by decide), keepE _ main_values (by decide) (by decide) (by decide), keepD _ main_values (by decide),
        keepC _ main_values (by decide)]
    rw [h]
    exact values_at (v0 m c) b j
  indices b j := by
    have h : ended m c (Proc.devRef .tc main_indices) = vB (v0 m c) (Proc.devRef .tc main_indices) := by
      rw [ended_keep m c main_indices (by decide) (by decide)]
      show vF (v0 m c) (Proc.devRef .tc main_indices) = _
      rw [keepF _ main_indices (by decide), keepE _ main_indices (by decide) (by decide) (by decide), keepD _ main_indices (by decide),
        keepC _ main_indices (by decide)]
    rw [h]
    exact indices_at (v0 m c) b j
  keep b j := keep_ended m c hs b j
  below := hs

theorem arg_ended (c : Dev nD) (r : Ref sig .tc) (ha : ∀ W ∈ wPre, r ∉ W) (hb : ∀ W ∈ wBody, r ∉ W) (hc : r ∉ condOps_W) :
    ended m c (Proc.devRef .tc r) = m ((c.tc : Thread nD τ).loc r) := by
  rw [ended_keep m c r hb hc]
  exact keep writesPre _ r ha

/-- A run of the reference ends with the four results of the specification, its arguments unchanged. -/
theorem run (hs : ∀ c : Dev nD, Spec.Below (m ((c.tc : Thread nD τ).loc main_arg2))) :
    θ_run defs (onTc (τ := τ) (main (F := Ideal))) ⟨m, fun _ => 0, ρ⟩ (fun r => ∀ c : Dev nD,
      r.2.mem ((c.tc : Thread nD τ).loc main_v89)
        = Spec.rois (m ((c.tc : Thread nD τ).loc main_arg0)) (m ((c.tc : Thread nD τ).loc main_arg1)) (m ((c.tc : Thread nD τ).loc main_arg2))
      ∧ r.2.mem ((c.tc : Thread nD τ).loc main_v92)
        = Spec.cls (m ((c.tc : Thread nD τ).loc main_arg1)) (m ((c.tc : Thread nD τ).loc main_arg2)) (m ((c.tc : Thread nD τ).loc main_arg3))
      ∧ r.2.mem ((c.tc : Thread nD τ).loc main_v93)
        = Spec.mask (m ((c.tc : Thread nD τ).loc main_arg1)) (m ((c.tc : Thread nD τ).loc main_arg2))
      ∧ r.2.mem ((c.tc : Thread nD τ).loc main_v98)
        = Spec.kd (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_fold m ρ)
  have L := left m c (hs c)
  have h0 := arg_ended m c main_arg0 (by decide) (by decide) (by decide)
  have h3 := arg_ended m c main_arg3 (by decide) (by decide) (by decide)
  refine ⟨(h c main_v89 rfl).trans (funext fun i => ?_), (h c main_v92 rfl).trans (funext fun i => ?_),
    (h c main_v93 rfl).trans (funext fun i => ?_), (h c main_v98 rfl).trans (funext fun i => ?_),
    (h c main_arg0 rfl).trans (final_args m c).1, (h c main_arg1 rfl).trans (final_args m c).2.1,
    (h c main_arg2 rfl).trans (final_args m c).2.2.1, (h c main_arg3 rfl).trans (final_args m c).2.2.2⟩
  · have := rois_at L (i 0) (i 1) (i 2)
    rw [h0] at this
    exact (congrArg (t12 (ended m c) (Proc.devRef .tc main_v89)) (ValueIdx.eq_ix3 i)).trans this
  · have := cls_at L (i 0) (i 1) (i 2)
    rw [h3] at this
    exact (congrArg (t12 (ended m c) (Proc.devRef .tc main_v92)) (ValueIdx.eq_ix3 i)).trans this
  · exact (congrArg (t12 (ended m c) (Proc.devRef .tc main_v93)) (ValueIdx.eq_ix2 i)).trans (mask_at L (i 0) (i 1))
  · have := kd_at L (Spec.batchOf (i 0)) (Spec.slotOf (i 0)) (i 0) (Spec.row_eq (i 0))
    rw [h3] at this
    refine (congrArg (t12 (ended m c) (Proc.devRef .tc main_v98)) ((ValueIdx.eq_ix2 i).trans ?_)).trans this
    exact congrArg (ix2 (i 0)) (Fin.fin_one_eq_zero (i 1))

end Cert.Proof.Ref

end
-- ==== Proof.lean ====
/- The claims, assembled from the modules under Proof/. -/
module

public import proofs.«01_k».proof.Defs
public import proofs.«01_k».proof.Proof.Gen.KernelIdeal
public import proofs.«01_k».proof.Proof.Gen.ReferenceIdeal
public import proofs.«01_k».proof.Proof.KResult
public import proofs.«01_k».proof.Proof.RefResult

@[expose] public section

noncomputable section

namespace Cert.Proof

open Idealize.ShloMosaic Idealize.SL.Sem

theorem pre_facts : Cert.Pre_scores_below_infinity.Facts := ⟨by decide⟩

/-- The precondition, entry by entry. -/
theorem below_of [Cert.Pre_scores_below_infinity.Facts] (a0 a1 : Spec.Boxes) (a2 a3 : Spec.Classes)
    (h : Cert.Pre_scores_below_infinity.fn (F := Ideal) a0 a1 a2 a3 = fun _ => 1#1) : Spec.Below a2 := by
  intro i
  have e : BitVec.ofBool (decide ((a2 i : EReal) < Ideal.ofBits .f32 0x7F800000#32)) = 1#1 := congrFun h i
  have ht : Ideal.ofBits .f32 0x7F800000#32 = (⊤ : EReal) := by simp [Ideal.ofBits, Ideal.ieee]
  rw [ht] at e
  by_contra hn
  rw [decide_eq_false hn] at e
  exact absurd e (by decide)

/-- The kernel and the reference both end with the specification's four results. -/
theorem equal : Cert.algebraic_KernelIdeal_ReferenceIdeal_pre_scores_below_infinity (hKernelIdeal := Cert.KernelIdeal.Gen.facts)
    (hReferenceIdeal := Cert.ReferenceIdeal.Gen.facts) (hPre_scores_below_infinity := pre_facts) := by
  intro m g m' g' hp ha
  refine ⟨_, _, _, _, Kern.run_values m g, ?_⟩
  have hs : ∀ c : Dev Cert.ReferenceIdeal.nD, Spec.Below (m' ((c.tc : Thread Cert.ReferenceIdeal.nD Cert.ReferenceIdeal.τ).loc Cert.ReferenceIdeal.main_arg2)) := fun c => by
    rw [(ha c).2.2.1]
    haveI := pre_facts
    exact below_of _ _ _ _ (hp c)
  refine (θ_run _ _ _).mono (fun r h c => ?_) (Ref.run m' g' hs)
  obtain ⟨h0, h1, h2, h3, hargs⟩ := h c
  rw [(ha c).1, (ha c).2.1, (ha c).2.2.1] at h0
  rw [(ha c).2.1, (ha c).2.2.1, (ha c).2.2.2] at h1
  rw [(ha c).2.1, (ha c).2.2.1] at h2
  rw [(ha c).2.1, (ha c).2.2.1, (ha c).2.2.2] at h3
  exact ⟨h0, h1, h2, h3, hargs⟩

theorem claim : Cert.Claim := ⟨Cert.KernelIdeal.Gen.facts, Cert.ReferenceIdeal.Gen.facts, pre_facts,
  fun m g _ => Kern.frame m g fun _ _ => Kern.halts _ _,
  fun m g _ => Kern.frame m g fun _ _ => Kern.halts _ _,
  fun m g _ => Ref.frame m g,
  fun m g _ => Ref.frame m g,
  equal⟩

end Cert.Proof

end
